-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x2880 : Shape := ⟨3, ![2, 128, 2880]⟩
abbrev S2880x5760 : Shape := ⟨2, ![2880, 5760]⟩
abbrev S90x32x5760 : Shape := ⟨3, ![90, 32, 5760]⟩
abbrev S_ : Shape := ⟨0, ![]⟩
abbrev S90x5760 : Shape := ⟨2, ![90, 5760]⟩

class Facts : Prop where
  bitsLt_bf16_f32 : FTy.bits .bf16 < FTy.bits .f32
  shapeCasts_S2880x5760_S90x32x5760 : S2880x5760.ShapeCasts S90x32x5760
  reducesTo_S90x32x5760_S90x5760_d1 : S90x32x5760.ReducesTo [1] S90x5760
  h_S_ : 0 < S_.numel
  bcast_S_S2x128x2880 : S_.BroadcastsInDim S2x128x2880 (![] : Fin 0 → Fin S2x128x2880.rank)
  reducesTo_S2x128x2880_S_d0_1_2 : S2x128x2880.ReducesTo [0, 1, 2] S_
  bcast_S_S90x5760 : S_.BroadcastsInDim S90x5760 (![] : Fin 0 → Fin S90x5760.rank)
  reducesTo_S90x5760_S_d0_1 : S90x5760.ReducesTo [0, 1] S_

variable [Facts]

def fn_part1 {F : FTy → Type} [FloatOps F] (main_v12 : IVec S_ 1) (main_v14 : IVec S90x5760 1) (main_v16 : IVec S90x5760 1) : IVec S_ 1 :=
  let main_v17 : IVec S90x5760 1 := ori main_v14 main_v16
  let main_c_5 : IVec S_ 1 := constantI S_ 1 1#1
  let main_v18 : IVec S_ 1 := (fun x v => Host.reduce IntOp.andi x v reducesTo_S90x5760_S_d0_1 h_S_) main_v17 main_c_5
  let main_v19 : IVec S_ 1 := andi main_v12 main_v18
  main_v19

def fn {F : FTy → Type} [FloatOps F] (main_arg0 : FVec F S2x128x2880 .bf16) (main_arg1 : FVec F S2880x5760 .bf16) : IVec S_ 1 :=
  let main_v0 : FVec F S2880x5760 .f32 := (extf .f32 · bitsLt_bf16_f32) main_arg1
  let main_v1 : FVec F S2880x5760 .f32 := Host.absf main_v0
  let main_v2 : FVec F S90x32x5760 .f32 := shapeCast S90x32x5760 main_v1 shapeCasts_S2880x5760_S90x32x5760
  let main_cst : FVec F S_ .f32 := constant S_ .f32 0xFF800000#32
  let main_v3 : FVec F S90x5760 .f32 := (fun x v => Host.reduce FloatOps.maximumf x v reducesTo_S90x32x5760_S90x5760_d1 h_S_) main_v2 main_cst
  let main_v4 : FVec F S2x128x2880 .f32 := (extf .f32 · bitsLt_bf16_f32) main_arg0
  let main_v5 : FVec F S2x128x2880 .f32 := Host.absf main_v4
  let main_cst_0 : FVec F S_ .f32 := constant S_ .f32 0x7F800000#32
  let main_v6 : FVec F S2x128x2880 .f32 := broadcastInDim S2x128x2880 ![] bcast_S_S2x128x2880 main_cst_0
  let main_v7 : IVec S2x128x2880 1 := cmpf .olt main_v5 main_v6
  let main_c : IVec S_ 1 := constantI S_ 1 1#1
  let main_v8 : IVec S_ 1 := (fun x v => Host.reduce IntOp.andi x v reducesTo_S2x128x2880_S_d0_1_2 h_S_) main_v7 main_c
  let main_cst_1 : FVec F S_ .f32 := constant S_ .f32 0x7F7FFFFF#32
  let main_v9 : FVec F S90x5760 .f32 := broadcastInDim S90x5760 ![] bcast_S_S90x5760 main_cst_1
  let main_v10 : IVec S90x5760 1 := cmpf .ole main_v3 main_v9
  let main_c_2 : IVec S_ 1 := constantI S_ 1 1#1
  let main_v11 : IVec S_ 1 := (fun x v => Host.reduce IntOp.andi x v reducesTo_S90x5760_S_d0_1 h_S_) main_v10 main_c_2
  let main_v12 : IVec S_ 1 := andi main_v8 main_v11
  let main_cst_3 : FVec F S_ .f32 := constant S_ .f32 0x00000000#32
  let main_v13 : FVec F S90x5760 .f32 := broadcastInDim S90x5760 ![] bcast_S_S90x5760 main_cst_3
  let main_v14 : IVec S90x5760 1 := cmpf .oeq main_v3 main_v13
  let main_cst_4 : FVec F S_ .f32 := constant S_ .f32 0x01800000#32
  let main_v15 : FVec F S90x5760 .f32 := broadcastInDim S90x5760 ![] bcast_S_S90x5760 main_cst_4
  let main_v16 : IVec S90x5760 1 := cmpf .oge main_v3 main_v15
  fn_part1 (F := F) main_v12 main_v14 main_v16
-- ==== Kernel.lean ====
abbrev S2x128x2880 : Shape := ⟨3, ![2, 128, 2880]⟩
abbrev S2880x5760 : Shape := ⟨2, ![2880, 5760]⟩
abbrev S2x2880x128 : Shape := ⟨3, ![2, 2880, 128]⟩
abbrev S3x90x5760 : Shape := ⟨3, ![3, 90, 5760]⟩
abbrev S1440x5760 : Shape := ⟨2, ![1440, 5760]⟩
abbrev S90x5760 : Shape := ⟨2, ![90, 5760]⟩
abbrev S2880x640 : Shape := ⟨2, ![2880, 640]⟩
abbrev S3x90x640 : Shape := ⟨3, ![3, 90, 640]⟩
abbrev S1440x640 : Shape := ⟨2, ![1440, 640]⟩
abbrev S90x640 : Shape := ⟨2, ![90, 640]⟩
abbrev S12x4x32x256 : Shape := ⟨4, ![12, 4, 32, 256]⟩
abbrev S8x128 : Shape := ⟨2, ![8, 128]⟩
abbrev S8x256 : Shape := ⟨2, ![8, 256]⟩
abbrev S1x256x128 : Shape := ⟨3, ![1, 256, 128]⟩
abbrev S256x128 : Shape := ⟨2, ![256, 128]⟩
abbrev S32x256 : Shape := ⟨2, ![32, 256]⟩
abbrev S1x1x32x256 : Shape := ⟨4, ![1, 1, 32, 256]⟩
abbrev S8x64 : Shape := ⟨2, ![8, 64]⟩
abbrev S1x64x128 : Shape := ⟨3, ![1, 64, 128]⟩
abbrev S64x128 : Shape := ⟨2, ![64, 128]⟩
abbrev S32x64 : Shape := ⟨2, ![32, 64]⟩
abbrev S1x1x32x64 : Shape := ⟨4, ![1, 1, 32, 64]⟩
abbrev S32x192 : Shape := ⟨2, ![32, 192]⟩
abbrev S1x1x32x192 : Shape := ⟨4, ![1, 1, 32, 192]⟩
abbrev S8x32x128 : Shape := ⟨3, ![8, 32, 128]⟩
abbrev S1x8x128 : Shape := ⟨3, ![1, 8, 128]⟩
abbrev S256x8x128 : Shape := ⟨3, ![256, 8, 128]⟩
abbrev S8x1x128 : Shape := ⟨3, ![8, 1, 128]⟩
abbrev S16x256x128 : Shape := ⟨3, ![16, 256, 128]⟩
abbrev S8x256x128 : Shape := ⟨3, ![8, 256, 128]⟩
abbrev S32x128 : Shape := ⟨2, ![32, 128]⟩
abbrev S32x8x128 : Shape := ⟨3, ![32, 8, 128]⟩
abbrev S128x128 : Shape := ⟨2, ![128, 128]⟩
abbrev S2x32x128 : Shape := ⟨3, ![2, 32, 128]⟩
abbrev S2x128 : Shape := ⟨2, ![2, 128]⟩
abbrev S1x2x128 : Shape := ⟨3, ![1, 2, 128]⟩
abbrev S256x2x128 : Shape := ⟨3, ![256, 2, 128]⟩
abbrev S2x1x128 : Shape := ⟨3, ![2, 1, 128]⟩
abbrev S16x64x128 : Shape := ⟨3, ![16, 64, 128]⟩
abbrev S8x64x128 : Shape := ⟨3, ![8, 64, 128]⟩
abbrev S8x8x128 : Shape := ⟨3, ![8, 8, 128]⟩
abbrev S90x128 : Shape := ⟨2, ![90, 128]⟩

abbrev nBuf : Space → Nat
  | .hbm => 6
  | .vmem => 10
  | .smem => 0
  | _ => 0

abbrev bufTy : (tb : Table) → Fin (tcTables nBuf tb) → BufTy
  | .hbm, ⟨0, _⟩ => ⟨S2x128x2880, .bf16⟩
  | .hbm, ⟨1, _⟩ => ⟨S2880x5760, .bf16⟩
  | .hbm, ⟨2, _⟩ => ⟨S2x2880x128, .bf16⟩
  | .hbm, ⟨3, _⟩ => ⟨S3x90x5760, .f32⟩
  | .hbm, ⟨4, _⟩ => ⟨S1440x5760, .i8⟩
  | .hbm, ⟨5, _⟩ => ⟨S90x5760, .i8⟩
  | .local _ .vmem, ⟨0, _⟩ => ⟨S2x2880x128, .bf16⟩
  | .local _ .vmem, ⟨1, _⟩ => ⟨S2880x640, .bf16⟩
  | .local _ .vmem, ⟨2, _⟩ => ⟨S2880x640, .bf16⟩
  | .local _ .vmem, ⟨3, _⟩ => ⟨S3x90x640, .f32⟩
  | .local _ .vmem, ⟨4, _⟩ => ⟨S3x90x640, .f32⟩
  | .local _ .vmem, ⟨5, _⟩ => ⟨S1440x640, .i8⟩
  | .local _ .vmem, ⟨6, _⟩ => ⟨S1440x640, .i8⟩
  | .local _ .vmem, ⟨7, _⟩ => ⟨S90x640, .i8⟩
  | .local _ .vmem, ⟨8, _⟩ => ⟨S90x640, .i8⟩
  | .local _ .vmem, ⟨9, _⟩ => ⟨S12x4x32x256, .bf16⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2880x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x90x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1440x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S90x640 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x128x2880 : Shape := ⟨3, ![2, 128, 2880]⟩
abbrev S2880x5760 : Shape := ⟨2, ![2880, 5760]⟩
abbrev S_ : Shape := ⟨0, ![]⟩
abbrev S2880 : Shape := ⟨1, ![2880]⟩
abbrev S90x32x5760 : Shape := ⟨3, ![90, 32, 5760]⟩
abbrev S90x5760 : Shape := ⟨2, ![90, 5760]⟩
abbrev S90x5760x1 : Shape := ⟨3, ![90, 5760, 1]⟩
abbrev S3 : Shape := ⟨1, ![3]⟩
abbrev S1x1x3 : Shape := ⟨3, ![1, 1, 3]⟩
abbrev S90x5760x3 : Shape := ⟨3, ![90, 5760, 3]⟩
abbrev S90x32x5760x1 : Shape := ⟨4, ![90, 32, 5760, 1]⟩
abbrev S90x1x5760x3 : Shape := ⟨4, ![90, 1, 5760, 3]⟩
abbrev S90x32x5760x3 : Shape := ⟨4, ![90, 32, 5760, 3]⟩
abbrev S90x32 : Shape := ⟨2, ![90, 32]⟩
abbrev S90x32x1x1 : Shape := ⟨4, ![90, 32, 1, 1]⟩
abbrev S1440x2x5760 : Shape := ⟨3, ![1440, 2, 5760]⟩
abbrev S1440x1x5760 : Shape := ⟨3, ![1440, 1, 5760]⟩
abbrev S1440x5760 : Shape := ⟨2, ![1440, 5760]⟩
abbrev S3x90x5760 : Shape := ⟨3, ![3, 90, 5760]⟩

abbrev nBuf : Space → Nat
  | .hbm => 150
  | .vmem => 0
  | .smem => 0
  | _ => 0

abbrev hbmTy0_0 (i : Nat) : BufTy := match i % 128 with
  | 0 => ⟨S2x128x2880, .bf16⟩
  | 1 => ⟨S2880x5760, .bf16⟩
  | 2 => ⟨S2x128x2880, .f32⟩
  | 3 => ⟨S2x128x2880, .f32⟩
  | 4 => ⟨S_, .f32⟩
  | 5 => ⟨S2880, .f32⟩
  | 6 => ⟨S_, .f32⟩
  | 7 => ⟨S2880, .f32⟩
  | 8 => ⟨S2880, .f32⟩
  | 9 => ⟨S2880x5760, .f32⟩
  | 10 => ⟨S90x32x5760, .f32⟩
  | 11 => ⟨S90x32x5760, .f32⟩
  | 12 => ⟨S_, .f32⟩
  | 13 => ⟨S90x5760, .f32⟩
  | 14 => ⟨S90x5760, .f32⟩
  | 15 => ⟨S_, .f32⟩
  | 16 => ⟨S_, .f32⟩
  | 17 => ⟨S90x5760, .f32⟩
  | 18 => ⟨S90x5760, .f32⟩
  | 19 => ⟨S90x5760, .f32⟩
  | 20 => ⟨S_, .f32⟩
  | 21 => ⟨S90x5760, .f32⟩
  | 22 => ⟨S90x5760, .i1⟩
  | 23 => ⟨S_, .f32⟩
  | 24 => ⟨S90x5760, .f32⟩
  | 25 => ⟨S90x5760, .f32⟩
  | 26 => ⟨S_, .i32⟩
  | 27 => ⟨S_, .f32⟩
  | 28 => ⟨S90x5760, .f32⟩
  | 29 => ⟨S90x5760, .f32⟩
  | 30 => ⟨S90x5760, .i32⟩
  | 31 => ⟨S90x5760x1, .i32⟩
  | 32 => ⟨S3, .i32⟩
  | 33 => ⟨S_, .i32⟩
  | 34 => ⟨S3, .i32⟩
  | 35 => ⟨S3, .i32⟩
  | 36 => ⟨S1x1x3, .i32⟩
  | 37 => ⟨S90x5760x3, .i32⟩
  | 38 => ⟨S90x5760x3, .i32⟩
  | 39 => ⟨S90x5760x3, .i32⟩
  | 40 => ⟨S90x32x5760x1, .f32⟩
  | 41 => ⟨S90x5760x3, .i32⟩
  | 42 => ⟨S90x5760x3, .f32⟩
  | 43 => ⟨S_, .f32⟩
  | 44 => ⟨S90x5760x3, .f32⟩
  | 45 => ⟨S90x5760x3, .f32⟩
  | 46 => ⟨S90x1x5760x3, .f32⟩
  | 47 => ⟨S90x32x5760x3, .f32⟩
  | 48 => ⟨S90x32x5760x3, .f32⟩
  | 49 => ⟨S90x32x5760x3, .f32⟩
  | 50 => ⟨S90x32x5760x3, .f32⟩
  | 51 => ⟨S_, .f32⟩
  | 52 => ⟨S90x32x5760x3, .f32⟩
  | 53 => ⟨S90x32x5760x3, .f32⟩
  | 54 => ⟨S_, .f32⟩
  | 55 => ⟨S90x32x5760x3, .f32⟩
  | 56 => ⟨S90x32x5760x3, .i1⟩
  | 57 => ⟨S_, .f32⟩
  | 58 => ⟨S90x32x5760x3, .f32⟩
  | 59 => ⟨S90x32x5760x3, .f32⟩
  | 60 => ⟨S90x32x5760x3, .f32⟩
  | 61 => ⟨S_, .f32⟩
  | 62 => ⟨S90x32x5760x3, .f32⟩
  | 63 => ⟨S90x32x5760x3, .f32⟩
  | 64 => ⟨S_, .f32⟩
  | 65 => ⟨S90x32x5760x3, .f32⟩
  | 66 => ⟨S90x32x5760x3, .i1⟩
  | 67 => ⟨S90x32x5760x3, .f32⟩
  | 68 => ⟨S_, .f32⟩
  | 69 => ⟨S90x32x5760x3, .f32⟩
  | 70 => ⟨S90x32x5760x3, .f32⟩
  | 71 => ⟨S90x32x5760x3, .f32⟩
  | 72 => ⟨S_, .f32⟩
  | 73 => ⟨S90x32x5760x3, .f32⟩
  | 74 => ⟨S90x32x5760x3, .f32⟩
  | 75 => ⟨S90x32x5760x3, .f32⟩
  | 76 => ⟨S90x32x5760x3, .f32⟩
  | 77 => ⟨S90x32x5760x3, .f32⟩
  | 78 => ⟨S90x32x5760x3, .f32⟩
  | 79 => ⟨S90x5760x3, .f32⟩
  | 80 => ⟨S_, .f32⟩
  | 81 => ⟨S90x5760x3, .f32⟩
  | 82 => ⟨S90x5760x3, .f32⟩
  | 83 => ⟨S90x1x5760x3, .f32⟩
  | 84 => ⟨S90x32x5760x3, .f32⟩
  | 85 => ⟨S90x32x5760x3, .f32⟩
  | 86 => ⟨S90x32, .f32⟩
  | 87 => ⟨S90x32x1x1, .f32⟩
  | 88 => ⟨S90x32x5760x1, .f32⟩
  | 89 => ⟨S90x32x5760x3, .f32⟩
  | 90 => ⟨S90x32x5760x3, .f32⟩
  | 91 => ⟨S90x32x5760x3, .f32⟩
  | 92 => ⟨S90x32x5760x3, .f32⟩
  | 93 => ⟨S90x32x5760x3, .f32⟩
  | 94 => ⟨S_, .f32⟩
  | 95 => ⟨S90x5760x3, .f32⟩
  | 96 => ⟨S90x32x5760x1, .f32⟩
  | 97 => ⟨S90x32x5760, .f32⟩
  | 98 => ⟨S90x32x5760x1, .f32⟩
  | 99 => ⟨S90x32x5760, .f32⟩
  | 100 => ⟨S_, .f32⟩
  | 101 => ⟨S90x32x5760, .f32⟩
  | 102 => ⟨S90x32x5760, .i1⟩
  | 103 => ⟨S_, .f32⟩
  | 104 => ⟨S90x32x5760, .f32⟩
  | 105 => ⟨S90x32x5760, .f32⟩
  | 106 => ⟨S_, .f32⟩
  | 107 => ⟨S90x32x5760, .f32⟩
  | 108 => ⟨S90x32x5760, .i1⟩
  | 109 => ⟨S_, .f32⟩
  | 110 => ⟨S90x32x5760, .f32⟩
  | 111 => ⟨S90x32x5760, .f32⟩
  | 112 => ⟨S_, .f32⟩
  | 113 => ⟨S90x32x5760, .f32⟩
  | 114 => ⟨S90x32x5760, .f32⟩
  | 115 => ⟨S_, .f32⟩
  | 116 => ⟨S90x32x5760, .f32⟩
  | 117 => ⟨S90x32x5760, .f32⟩
  | 118 => ⟨S90x32x5760, .f32⟩
  | 119 => ⟨S90x32x5760, .f32⟩
  | 120 => ⟨S90x32x5760, .i32⟩
  | 121 => ⟨S_, .f32⟩
  | 122 => ⟨S90x32x5760, .f32⟩
  | 123 => ⟨S90x32x5760, .i1⟩
  | 124 => ⟨S_, .f32⟩
  | 125 => ⟨S90x32x5760, .f32⟩
  | 126 => ⟨S90x32x5760, .i1⟩
  | 127 => ⟨S90x32x5760, .i1⟩
  | _ => ⟨S2x128x2880, .bf16⟩

abbrev hbmTy0_1 (i : Nat) : BufTy := match i % 128 with
  | 0 => ⟨S_, .i32⟩
  | 1 => ⟨S_, .i32⟩
  | 2 => ⟨S90x32x5760, .i32⟩
  | 3 => ⟨S90x32x5760, .i32⟩
  | 4 => ⟨S90x32x5760, .i32⟩
  | 5 => ⟨S90x32x5760, .i32⟩
  | 6 => ⟨S90x32x5760, .i32⟩
  | 7 => ⟨S1440x2x5760, .i32⟩
  | 8 => ⟨S1440x1x5760, .i32⟩
  | 9 => ⟨S1440x5760, .i32⟩
  | 10 => ⟨S1440x1x5760, .i32⟩
  | 11 => ⟨S1440x5760, .i32⟩
  | 12 => ⟨S_, .i32⟩
  | 13 => ⟨S1440x5760, .i32⟩
  | 14 => ⟨S1440x5760, .i32⟩
  | 15 => ⟨S1440x5760, .i32⟩
  | 16 => ⟨S1440x5760, .i8⟩
  | 17 => ⟨S_, .i32⟩
  | 18 => ⟨S90x5760, .i32⟩
  | 19 => ⟨S90x5760, .i32⟩
  | 20 => ⟨S90x5760, .i8⟩
  | 21 => ⟨S3x90x5760, .f32⟩
  | _ => ⟨S2x128x2880, .bf16⟩

abbrev hbmTy (i : Nat) : BufTy := match i / 128 with
  | 0 => hbmTy0_0 i
  | 1 => hbmTy0_1 i
  | _ => ⟨S2x128x2880, .bf16⟩

abbrev bufTy : (tb : Table) → Fin (tcTables nBuf tb) → BufTy
  | .hbm, ⟨i, _⟩ => hbmTy i
  | _, _ => ⟨S2x128x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_cst_20 : Ref sig .tc := ⟨.hbm, 112, rfl⟩
abbrev main_v86 : Ref sig .tc := ⟨.hbm, 113, rfl⟩
abbrev main_v87 : Ref sig .tc := ⟨.hbm, 114, rfl⟩
abbrev main_cst_21 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_cst_23 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_24 : Ref sig .tc := ⟨.hbm, 128, rfl⟩
abbrev main_c_25 : Ref sig .tc := ⟨.hbm, 129, rfl⟩
abbrev main_call8_v0 : Ref sig .tc := ⟨.hbm, 130, rfl⟩
abbrev main_call8_v1 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_26 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]
-- ==== Proof.Tile.lean ====
/- The kernel's work on one tile of `R` rows of `w` (`nb` blocks of 32 rows) and 128 columns, as functions of the tile
   it loads: the body repeats them for every strip of columns and every group of blocks, with `R = 256` or, for the
   last group, `R = 64`. -/
module

public import proofs.«01_k».proof.Proof.Gen.KernelIdeal
public import Idealize.ShloMosaic.Lib.Pipeline.ValueKit

@[expose] public section

noncomputable section

namespace Cert.Proof

open Idealize.ShloMosaic Idealize.SL.Sem

/-- The shape relations the tile's operations take, at `R` rows, `nb` blocks and `q = R / 8` words. -/
class Ev (R nb q : ℕ) : Prop where
  blk : (⟨2, ![R, 128]⟩ : Shape).ShapeCasts ⟨3, ![nb, 32, 128]⟩
  blkMax : (⟨3, ![nb, 32, 128]⟩ : Shape).Reduces [1] ⟨2, ![nb, 128]⟩
  e1 : (⟨2, ![nb, 128]⟩ : Shape).ShapeCasts ⟨3, ![1, nb, 128]⟩
  e1' : (⟨3, ![1, nb, 128]⟩ : Shape).ShapeCasts ⟨3, ![1, nb, 128]⟩
  eIota : (⟨3, ![256, nb, 128]⟩ : Shape).Iotas .tc 32 [0]
  eB : (⟨3, ![1, nb, 128]⟩ : Shape).Broadcasts ⟨3, ![256, nb, 128]⟩
  eMax : (⟨3, ![256, nb, 128]⟩ : Shape).Reduces [0] ⟨2, ![nb, 128]⟩
  m1 : (⟨2, ![nb, 128]⟩ : Shape).ShapeCasts ⟨3, ![nb, 1, 128]⟩
  m1' : (⟨3, ![nb, 1, 128]⟩ : Shape).ShapeCasts ⟨3, ![nb, 1, 128]⟩
  mB : (⟨3, ![nb, 1, 128]⟩ : Shape).Broadcasts ⟨3, ![nb, 32, 128]⟩
  unblk : (⟨3, ![nb, 32, 128]⟩ : Shape).ShapeCasts ⟨2, ![R, 128]⟩
  t1 : (⟨2, ![R, 128]⟩ : Shape).ShapeCasts ⟨3, ![1, R, 128]⟩
  t1' : (⟨3, ![1, R, 128]⟩ : Shape).ShapeCasts ⟨3, ![1, R, 128]⟩
  t16Iota : (⟨3, ![16, R, 128]⟩ : Shape).Iotas .tc 32 [0]
  t16B : (⟨3, ![1, R, 128]⟩ : Shape).Broadcasts ⟨3, ![16, R, 128]⟩
  t16Max : (⟨3, ![16, R, 128]⟩ : Shape).Reduces [0] ⟨2, ![R, 128]⟩
  t8Iota : (⟨3, ![8, R, 128]⟩ : Shape).Iotas .tc 32 [0]
  t8B : (⟨3, ![1, R, 128]⟩ : Shape).Broadcasts ⟨3, ![8, R, 128]⟩
  t8Max : (⟨3, ![8, R, 128]⟩ : Shape).Reduces [0] ⟨2, ![R, 128]⟩
  lhs : (⟨4, ![1, 1, 32, R]⟩ : Shape).ShapeCasts ⟨2, ![32, R]⟩
  dot : DotDims.WF ⟨2, ![32, R]⟩ ⟨2, ![R, 128]⟩ ⟨2, ![32, 128]⟩ [1] [0] [0] [1] [] []
  cIota : (⟨2, ![R, 128]⟩ : Shape).Iotas .tc 32 [0]
  word : (⟨2, ![R, 128]⟩ : Shape).ShapeCasts ⟨3, ![q, 8, 128]⟩
  wordSum : (⟨3, ![q, 8, 128]⟩ : Shape).Reduces [1] ⟨2, ![q, 128]⟩
  bytes : (⟨2, ![q, 128]⟩ : Shape).Bitcasts 32 ⟨2, ![q * 4, 128]⟩ 8
  s0 : (⟨2, ![32, 128]⟩ : Shape).Slices ![0, 0] ⟨2, ![8, 128]⟩
  s8 : (⟨2, ![32, 128]⟩ : Shape).Slices ![8, 0] ⟨2, ![8, 128]⟩
  s16 : (⟨2, ![32, 128]⟩ : Shape).Slices ![16, 0] ⟨2, ![8, 128]⟩
  bits : FTy.bits .bf16 < FTy.bits .f32

instance : Ev 256 8 32 := by constructor <;> decide
instance : Ev 64 2 8 := by constructor <;> decide

variable {F : FTy → Type} [FloatOps F]

section
variable {R nb q : ℕ} [Ev R nb q]

/-- The dimensions of the 32-row product. -/
def tdot (R nb q : ℕ) [h : Ev R nb q] : DotDims ⟨2, ![32, R]⟩ ⟨2, ![R, 128]⟩ ⟨2, ![32, 128]⟩ where
  lhsContracting := [1]
  rhsContracting := [0]
  lhsNonContracting := [0]
  rhsNonContracting := [1]
  lhsBatch := []
  rhsBatch := []
  wf := h.dot

/-- One bound of the search of `_largest` over the tile's rows: the largest bit pattern `t + (k << bit)` whose float
    does not exceed `a`, or `t`. -/
def bound {n a b : ℕ} (x : FVec F ⟨2, ![a, b]⟩ .f32) (t : IVec ⟨2, ![a, b]⟩ 32) (bit : BitVec 32)
    (hi : (⟨3, ![n, a, b]⟩ : Shape).Iotas .tc 32 [0])
    (c1 : (⟨2, ![a, b]⟩ : Shape).ShapeCasts ⟨3, ![1, a, b]⟩) (c1' : (⟨3, ![1, a, b]⟩ : Shape).ShapeCasts ⟨3, ![1, a, b]⟩)
    (hb : (⟨3, ![1, a, b]⟩ : Shape).Broadcasts ⟨3, ![n, a, b]⟩) (hm : (⟨3, ![n, a, b]⟩ : Shape).Reduces [0] ⟨2, ![a, b]⟩) :
    IVec ⟨2, ![a, b]⟩ 32 :=
  have c : IVec ⟨3, ![n, a, b]⟩ 32 := addi (broadcastTo ⟨3, ![n, a, b]⟩ (shapeCast ⟨3, ![1, a, b]⟩ t c1) hb)
    (shli (iota .tc ⟨3, ![n, a, b]⟩ 32 [0] hi) (broadcast ⟨3, ![n, a, b]⟩ bit))
  multiReductionI .maxsi [0] ⟨2, ![a, b]⟩
    (select (cmpf .oge (broadcastTo ⟨3, ![n, a, b]⟩ (shapeCast ⟨3, ![1, a, b]⟩ x c1) hb) (bitcastToFloat .f32 c)) c
      (broadcastTo ⟨3, ![n, a, b]⟩ (shapeCast ⟨3, ![1, a, b]⟩ (shapeCast ⟨3, ![1, a, b]⟩ t c1) c1') hb))
    2147483648#32 hm rfl

/-- The largest magnitude of each block of 32 rows. -/
def amaxT (w : FVec F ⟨2, ![R, 128]⟩ .bf16) : FVec F ⟨2, ![nb, 128]⟩ .f32 :=
  multiReduction .maximumf [1] ⟨2, ![nb, 128]⟩
    (absf (extf .f32 (shapeCast ⟨3, ![nb, 32, 128]⟩ w (Ev.blk q)) (Ev.bits R nb q))) 0xFF800000#32 (Ev.blkMax R q) (.inl rfl) rfl

/-- The exponent bits of each block's largest magnitude. -/
def ebT (w : FVec F ⟨2, ![R, 128]⟩ .bf16) : IVec ⟨2, ![nb, 128]⟩ 32 :=
  shrsi (bound (amaxT (nb := nb) (q := q) w) (broadcast ⟨2, ![nb, 128]⟩ 0#32) 23#32
      (Ev.eIota R (nb := nb) q) (Ev.e1 R q) (Ev.e1' R q) (Ev.eB R q) (Ev.eMax R q))
    (broadcast ⟨2, ![nb, 128]⟩ 23#32)

/-- The scale byte of each block, as a word. -/
def scaleT (w : FVec F ⟨2, ![R, 128]⟩ .bf16) : IVec ⟨2, ![nb, 128]⟩ 32 :=
  have eb := ebT (nb := nb) (q := q) w
  select (cmpi .eq eb (broadcast ⟨2, ![nb, 128]⟩ 0#32)) (broadcast ⟨2, ![nb, 128]⟩ 127#32) (subi eb (broadcast ⟨2, ![nb, 128]⟩ 2#32))

/-- The power of two each block is divided by. -/
def unitT (w : FVec F ⟨2, ![R, 128]⟩ .bf16) : FVec F ⟨2, ![nb, 128]⟩ .f32 :=
  have eb := ebT (nb := nb) (q := q) w
  bitcastToFloat .f32 (select (cmpi .eq eb (broadcast ⟨2, ![nb, 128]⟩ 0#32)) (broadcast ⟨2, ![nb, 128]⟩ 0#32)
    (shli (subi eb (broadcast ⟨2, ![nb, 128]⟩ 2#32)) (broadcast ⟨2, ![nb, 128]⟩ 23#32)))

/-- The reciprocal of that power of two. -/
def invT (w : FVec F ⟨2, ![R, 128]⟩ .bf16) : FVec F ⟨2, ![nb, 128]⟩ .f32 :=
  have eb := ebT (nb := nb) (q := q) w
  select (cmpi .eq eb (broadcast ⟨2, ![nb, 128]⟩ 0#32)) (broadcast ⟨2, ![nb, 128]⟩ (Scalar.ofBits .f32 0x00000000#32))
    (bitcastToFloat .f32 (shli (subi (broadcast ⟨2, ![nb, 128]⟩ 256#32) eb) (broadcast ⟨2, ![nb, 128]⟩ 23#32)))

/-- The scaled weights. -/
def vT (w : FVec F ⟨2, ![R, 128]⟩ .bf16) : FVec F ⟨2, ![R, 128]⟩ .bf16 :=
  mulf w (truncf .bf16 (shapeCast ⟨2, ![R, 128]⟩ (broadcastTo ⟨3, ![nb, 32, 128]⟩
    (shapeCast ⟨3, ![nb, 1, 128]⟩ (shapeCast ⟨3, ![nb, 1, 128]⟩ (invT (nb := nb) (q := q) w) (Ev.m1 R q)) (Ev.m1' R q)) (Ev.mB R q))
    (Ev.unblk q)) (Ev.bits R nb q))

/-- The scaled weight's leading bits. -/
def hatT (v : FVec F ⟨2, ![R, 128]⟩ .bf16) : FVec F ⟨2, ![R, 128]⟩ .bf16 :=
  have a : FVec F ⟨2, ![R, 128]⟩ .f32 := absf (extf .f32 v (Ev.bits R nb q))
  have t1 := bound a (broadcast ⟨2, ![R, 128]⟩ 0#32) 27#32 (Ev.t16Iota nb q) (Ev.t1 nb q) (Ev.t1' nb q) (Ev.t16B nb q) (Ev.t16Max nb q)
  have t2 := bound a t1 23#32 (Ev.t16Iota nb q) (Ev.t1 nb q) (Ev.t1' nb q) (Ev.t16B nb q) (Ev.t16Max nb q)
  have t3 := bound a t2 20#32 (Ev.t8Iota nb q) (Ev.t1 nb q) (Ev.t1' nb q) (Ev.t8B nb q) (Ev.t8Max nb q)
  have h : FVec F ⟨2, ![R, 128]⟩ .f32 := bitcastToFloat .f32 t3
  truncf .bf16 (select (cmpf .olt v (broadcast ⟨2, ![R, 128]⟩ (Scalar.ofBits .bf16 0x0000#16)))
    (subf (broadcast ⟨2, ![R, 128]⟩ (Scalar.ofBits .f32 0x00000000#32)) h) h) (Ev.bits R nb q)

/-- The step of the four-bit grid at the scaled weight. -/
def stepT (v : FVec F ⟨2, ![R, 128]⟩ .bf16) (up : BitVec 16) : FVec F ⟨2, ![R, 128]⟩ .bf16 :=
  have a : FVec F ⟨2, ![R, 128]⟩ .bf16 := absf (mulf v (broadcast ⟨2, ![R, 128]⟩ (Scalar.ofBits .bf16 up)))
  select (cmpf .olt a (broadcast ⟨2, ![R, 128]⟩ (Scalar.ofBits .bf16 0x4000#16)))
    (broadcast ⟨2, ![R, 128]⟩ (Scalar.ofBits .bf16 0x3F00#16))
    (select (cmpf .olt a (broadcast ⟨2, ![R, 128]⟩ (Scalar.ofBits .bf16 0x4080#16)))
      (broadcast ⟨2, ![R, 128]⟩ (Scalar.ofBits .bf16 0x3F80#16)) (broadcast ⟨2, ![R, 128]⟩ (Scalar.ofBits .bf16 0x4000#16)))

/-- The scaled weight, clipped and rounded to a number of steps. -/
def countT (v : FVec F ⟨2, ![R, 128]⟩ .bf16) (up : BitVec 16) : FVec F ⟨2, ![R, 128]⟩ .bf16 :=
  roundeven (divf
    (minimumf (broadcast ⟨2, ![R, 128]⟩ (Scalar.truncf .bf16 (Ev.bits R nb q) (Scalar.ofBits .f32 0x40C00000#32)))
      (maximumf (broadcast ⟨2, ![R, 128]⟩ (Scalar.truncf .bf16 (Ev.bits R nb q) (Scalar.ofBits .f32 0xC0C00000#32)))
        (mulf v (broadcast ⟨2, ![R, 128]⟩ (Scalar.ofBits .bf16 up)))))
    (stepT v up))

/-- The leading bits' distance from the quantised value. -/
def gcT (v : FVec F ⟨2, ![R, 128]⟩ .bf16) (up : BitVec 16) : FVec F ⟨2, ![R, 128]⟩ .bf16 :=
  subf (mulf (hatT (nb := nb) (q := q) v) (broadcast ⟨2, ![R, 128]⟩ (Scalar.ofBits .bf16 up)))
    (mulf (countT (nb := nb) (q := q) v up) (stepT v up))

/-- One product with the left operand. -/
def mmT (a : FVec F ⟨4, ![1, 1, 32, R]⟩ .bf16) (b : FVec F ⟨2, ![R, 128]⟩ .bf16) : FVec F ⟨2, ![32, 128]⟩ .f32 :=
  matmul (tdot R nb q) none (shapeCast ⟨2, ![32, R]⟩ a (Ev.lhs nb q)) b (constant ⟨2, ![32, 128]⟩ .f32 0x00000000#32)

/-- The three products of one candidate, over 32 rows. -/
def accT (w : FVec F ⟨2, ![R, 128]⟩ .bf16) (up : BitVec 16) (a1 asq acr : FVec F ⟨4, ![1, 1, 32, R]⟩ .bf16) : FVec F ⟨2, ![32, 128]⟩ .f32 :=
  have v := vT (nb := nb) (q := q) w
  have d : FVec F ⟨2, ![R, 128]⟩ .bf16 := subf v (hatT (nb := nb) (q := q) v)
  have gc := gcT (nb := nb) (q := q) v up
  addf (addf (mmT (nb := nb) (q := q) a1 (mulf d d)) (mmT (nb := nb) (q := q) asq (mulf gc gc))) (mmT (nb := nb) (q := q) acr (mulf gc d))

/-- Their three rows added up. -/
def totT (w : FVec F ⟨2, ![R, 128]⟩ .bf16) (up : BitVec 16) (a1 asq acr : FVec F ⟨4, ![1, 1, 32, R]⟩ .bf16) : FVec F ⟨2, ![8, 128]⟩ .f32 :=
  have acc := accT (nb := nb) (q := q) w up a1 asq acr
  addf (addf (extractStridedSlice ⟨2, ![8, 128]⟩ ![0, 0] acc (Ev.s0 R nb q)) (extractStridedSlice ⟨2, ![8, 128]⟩ ![8, 0] acc (Ev.s8 R nb q)))
    (extractStridedSlice ⟨2, ![8, 128]⟩ ![16, 0] acc (Ev.s16 R nb q))

/-- The four-bit code of each scaled weight, as a word. -/
def nibT (v : FVec F ⟨2, ![R, 128]⟩ .bf16) : IVec ⟨2, ![R, 128]⟩ 32 :=
  have n : IVec ⟨2, ![R, 128]⟩ 32 := fptosi 32 (extf .f32 (countT (nb := nb) (q := q) v 0x3F80#16) (Ev.bits R nb q))
  have st := stepT v 0x3F80#16
  have mag : IVec ⟨2, ![R, 128]⟩ 32 := addi (absi n) (select (cmpf .olt st (broadcast ⟨2, ![R, 128]⟩ (Scalar.ofBits .bf16 0x3F80#16)))
    (broadcast ⟨2, ![R, 128]⟩ 0#32) (select (cmpf .olt st (broadcast ⟨2, ![R, 128]⟩ (Scalar.ofBits .bf16 0x4000#16)))
      (broadcast ⟨2, ![R, 128]⟩ 2#32) (broadcast ⟨2, ![R, 128]⟩ 4#32)))
  select (cmpi .slt n (broadcast ⟨2, ![R, 128]⟩ 0#32)) (addi mag (broadcast ⟨2, ![R, 128]⟩ 8#32)) mag

/-- Eight codes to a word, a code of minus zero made zero. -/
def wordT (w : FVec F ⟨2, ![R, 128]⟩ .bf16) : IVec ⟨2, ![q, 128]⟩ 32 :=
  have sh : IVec ⟨2, ![R, 128]⟩ 32 := shli (andi (iota .tc ⟨2, ![R, 128]⟩ 32 [0] (Ev.cIota nb q)) (broadcast ⟨2, ![R, 128]⟩ 7#32))
    (broadcast ⟨2, ![R, 128]⟩ 2#32)
  have p : IVec ⟨2, ![q, 128]⟩ 32 := multiReductionI .add [1] ⟨2, ![q, 128]⟩
    (shapeCast ⟨3, ![q, 8, 128]⟩ (shli (nibT (nb := nb) (q := q) (vT (nb := nb) (q := q) w)) sh) (Ev.word nb)) 0#32 (Ev.wordSum R nb) rfl
  have k : IVec ⟨2, ![q, 128]⟩ 32 := broadcast ⟨2, ![q, 128]⟩ 2004318071#32
  andi p (ori (addi (andi p k) k) k)
end

/-- The errors of one candidate for a group of eight blocks. -/
def err8 (w : FVec F ⟨2, ![256, 128]⟩ .bf16) (up : BitVec 16) (a1 asq acr : FVec F ⟨4, ![1, 1, 32, 256]⟩ .bf16) : FVec F ⟨3, ![1, 8, 128]⟩ .f32 :=
  have u := unitT (nb := 8) (q := 32) w
  shapeCast ⟨3, ![1, 8, 128]⟩ (mulf (mulf (totT (nb := 8) (q := 32) w up a1 asq acr) u) u) (Ev.e1 256 32)

/-- The errors of one candidate for the last group of two blocks. -/
def err2 (w : FVec F ⟨2, ![64, 128]⟩ .bf16) (up : BitVec 16) (a1 asq acr : FVec F ⟨4, ![1, 1, 32, 64]⟩ .bf16) : FVec F ⟨3, ![1, 2, 128]⟩ .f32 :=
  have u := unitT (nb := 2) (q := 8) w
  shapeCast ⟨3, ![1, 2, 128]⟩ (mulf (mulf (extractStridedSlice ⟨2, ![2, 128]⟩ ![0, 0] (totT (nb := 2) (q := 8) w up a1 asq acr)
    Cert.KernelIdeal.Facts₀.slices_S8x128_o0_0_S2x128) u) u) (Ev.e1 64 8)

/-- The bytes of a group of eight blocks. -/
def code8 (w : FVec F ⟨2, ![256, 128]⟩ .bf16) : IVec ⟨2, ![128, 128]⟩ 8 :=
  bitcast ⟨2, ![128, 128]⟩ 8 (wordT (nb := 8) (q := 32) w) Cert.KernelIdeal.Facts₀.bitcasts_S32x128_w32_S128x128_w8

/-- The bytes of the last group of two blocks. -/
def code2 (w : FVec F ⟨2, ![64, 128]⟩ .bf16) : IVec ⟨2, ![32, 128]⟩ 8 :=
  bitcast ⟨2, ![32, 128]⟩ 8 (wordT (nb := 2) (q := 8) w) Cert.KernelIdeal.Facts₀.bitcasts_S8x128_w32_S32x128_w8

/-- The scale bytes of one strip from those of its twelve groups, the last of two blocks. -/
def scaleCat (s0 s1 s2 s3 s4 s5 s6 s7 s8 s9 s10 : IVec ⟨2, ![8, 128]⟩ 32) (s' : IVec ⟨2, ![2, 128]⟩ 32) : IVec ⟨2, ![90, 128]⟩ 8 :=
  trunci 8 (concatenate ⟨2, ![90, 128]⟩ 0
    [⟨⟨2, ![8, 128]⟩, s0⟩, ⟨⟨2, ![8, 128]⟩, s1⟩, ⟨⟨2, ![8, 128]⟩, s2⟩, ⟨⟨2, ![8, 128]⟩, s3⟩, ⟨⟨2, ![8, 128]⟩, s4⟩, ⟨⟨2, ![8, 128]⟩, s5⟩, ⟨⟨2, ![8, 128]⟩, s6⟩, ⟨⟨2, ![8, 128]⟩, s7⟩, ⟨⟨2, ![8, 128]⟩, s8⟩, ⟨⟨2, ![8, 128]⟩, s9⟩, ⟨⟨2, ![8, 128]⟩, s10⟩,
      ⟨⟨2, ![2, 128]⟩, s'⟩]
    Cert.KernelIdeal.Facts₀.concatenates_S8x128_S8x128_S8x128_S8x128_S8x128_S8x128_S8x128_S8x128_S8x128_S8x128_S8x128_S2x128_S90x128_d0) (by decide)

/-- The shape relations of the left operand of the products, at `R` rows of `w`. -/
class Lv (R : ℕ) : Prop where
  row : (⟨3, ![1, R, 128]⟩ : Shape).ShapeCasts ⟨2, ![R, 128]⟩
  dot : DotDims.WF ⟨2, ![8, 128]⟩ ⟨2, ![R, 128]⟩ ⟨2, ![8, R]⟩ [1] [1] [0] [0] [] []
  iota0 : (⟨2, ![8, R]⟩ : Shape).Iotas .tc 32 [0]
  iota1 : (⟨2, ![8, R]⟩ : Shape).Iotas .tc 32 [1]
  cat : Shape.Concatenates [⟨2, ![8, R]⟩, ⟨2, ![8, R]⟩, ⟨2, ![8, R]⟩, ⟨2, ![8, R]⟩] ⟨2, ![32, R]⟩ 0
  out : (⟨2, ![32, R]⟩ : Shape).ShapeCasts ⟨4, ![1, 1, 32, R]⟩
  bits : FTy.bits .bf16 < FTy.bits .f32

instance : Lv 256 := by constructor <;> decide
instance : Lv 64 := by constructor <;> decide

section
variable {R : ℕ} [Lv R]

/-- The dimensions of the product of ones with the squares. -/
def hdot (R : ℕ) [h : Lv R] : DotDims ⟨2, ![8, 128]⟩ ⟨2, ![R, 128]⟩ ⟨2, ![8, R]⟩ where
  lhsContracting := [1]
  rhsContracting := [1]
  lhsNonContracting := [0]
  rhsNonContracting := [0]
  lhsBatch := []
  rhsBatch := []
  wf := h.dot

/-- The sums of squares of one batch's activations, added to `acc`: the squares' high part and what it leaves. -/
def sqT (acc : FVec F ⟨2, ![8, R]⟩ .f32) (x : FVec F ⟨3, ![1, R, 128]⟩ .bf16) : FVec F ⟨2, ![8, R]⟩ .f32 :=
  have xf : FVec F ⟨2, ![R, 128]⟩ .f32 := extf .f32 (shapeCast ⟨2, ![R, 128]⟩ x Lv.row) (Lv.bits R)
  have x2 := mulf xf xf
  have hi : FVec F ⟨2, ![R, 128]⟩ .bf16 := truncf .bf16 x2 (Lv.bits R)
  have lo : FVec F ⟨2, ![R, 128]⟩ .bf16 := truncf .bf16 (subf x2 (extf .f32 hi (Lv.bits R))) (Lv.bits R)
  have one : FVec F ⟨2, ![8, 128]⟩ .bf16 := broadcast ⟨2, ![8, 128]⟩ (Scalar.ofBits .bf16 0x3F80#16)
  addf (addf acc (matmul (hdot R) none one hi (constant ⟨2, ![8, R]⟩ .f32 0x00000000#32)))
    (matmul (hdot R) none one lo (constant ⟨2, ![8, R]⟩ .f32 0x00000000#32))

/-- The mean square of each input feature, in each of eight rows. -/
def meanT (xa xb : FVec F ⟨3, ![1, R, 128]⟩ .bf16) : FVec F ⟨2, ![8, R]⟩ .f32 :=
  mulf (sqT (sqT (broadcast ⟨2, ![8, R]⟩ (Scalar.ofBits .f32 0x00000000#32)) xa) xb)
    (broadcast ⟨2, ![8, R]⟩ (Scalar.ofBits .f32 0x3B800000#32))

/-- Whether a feature belongs to the row's block. -/
def maskT (R : ℕ) [Lv R] : IVec ⟨2, ![8, R]⟩ 1 :=
  have k : IVec ⟨2, ![8, R]⟩ 32 := iota .tc ⟨2, ![8, R]⟩ 32 [1] Lv.iota1
  have q := divsi k (broadcast ⟨2, ![8, R]⟩ 32#32)
  have sg : IVec ⟨2, ![8, R]⟩ 32 := subi (extui 32 (cmpi .sgt k (broadcast ⟨2, ![8, R]⟩ 0#32)) (by decide))
    (extui 32 (cmpi .slt k (broadcast ⟨2, ![8, R]⟩ 0#32)) (by decide))
  have s1 : BitVec 32 := Scalar.subi (Scalar.extui (Scalar.cmpi .sgt 32#32 0#32)) (Scalar.extui (Scalar.cmpi .slt 32#32 0#32))
  have rem : IVec ⟨2, ![8, R]⟩ 1 := cmpi .ne (remsi k (broadcast ⟨2, ![8, R]⟩ 32#32)) (broadcast ⟨2, ![8, R]⟩ 0#32)
  cmpi .eq (select (andi (cmpi .ne sg (broadcast ⟨2, ![8, R]⟩ s1)) rem) (subi q (broadcast ⟨2, ![8, R]⟩ 1#32)) q)
    (iota .tc ⟨2, ![8, R]⟩ 32 [0] Lv.iota0)

/-- The left operand before its scale: the mean squares by block, their high part, the two parts that it leaves, and zero. -/
def partsT (h : FVec F ⟨2, ![8, R]⟩ .f32) : FVec F ⟨2, ![32, R]⟩ .f32 :=
  have h1 : FVec F ⟨2, ![8, R]⟩ .bf16 := truncf .bf16 h (Lv.bits R)
  have r1 : FVec F ⟨2, ![8, R]⟩ .f32 := subf h (extf .f32 h1 (Lv.bits R))
  have h2 : FVec F ⟨2, ![8, R]⟩ .bf16 := truncf .bf16 r1 (Lv.bits R)
  have r2 : FVec F ⟨2, ![8, R]⟩ .f32 := subf r1 (extf .f32 h2 (Lv.bits R))
  have h3 : FVec F ⟨2, ![8, R]⟩ .bf16 := truncf .bf16 r2 (Lv.bits R)
  concatenate ⟨2, ![32, R]⟩ 0 [⟨⟨2, ![8, R]⟩, extf .f32 h1 (Lv.bits R)⟩, ⟨⟨2, ![8, R]⟩, extf .f32 h2 (Lv.bits R)⟩,
    ⟨⟨2, ![8, R]⟩, extf .f32 h3 (Lv.bits R)⟩, ⟨⟨2, ![8, R]⟩, broadcast ⟨2, ![8, R]⟩ (Scalar.ofBits .f32 0x00000000#32)⟩] Lv.cat

/-- The left operand at one scale. -/
def lhsT (sc : BitVec 32) (xa xb : FVec F ⟨3, ![1, R, 128]⟩ .bf16) : FVec F ⟨4, ![1, 1, 32, R]⟩ .bf16 :=
  shapeCast ⟨4, ![1, 1, 32, R]⟩ (truncf .bf16 (mulf (partsT (select (maskT R) (meanT xa xb)
    (broadcast ⟨2, ![8, R]⟩ (Scalar.ofBits .f32 0x00000000#32)))) (broadcast ⟨2, ![32, R]⟩ (Scalar.ofBits .f32 sc))) (Lv.bits R)) Lv.out
end

end Cert.Proof
end
-- ==== Proof.Scalar.lean ====
/- The kernel's arithmetic on one value, over the reals: the searches for an exponent, the four-bit rounding, the code. -/
module

public import proofs.«01_k».proof.Proof.Tile

@[expose] public section

set_option maxRecDepth 16384

noncomputable section

namespace Cert.Proof

open Idealize.ShloMosaic

/-- A signed maximum reaches the value `M` that some entry has and none exceeds. -/
theorem fold_maxsi_eq {ι : Type} [DecidableEq ι] (S : Finset ι) (f : ι → BitVec 32) (M : BitVec 32) (hle : ∀ k ∈ S, (f k).toInt ≤ M.toInt)
    (k : ι) (hk : k ∈ S) (he : f k = M) : S.fold IntOp.maxsi 2147483648#32 f = M := by
  have hmax (a b : BitVec 32) : (IntOp.maxsi a b = a ∧ b.toInt ≤ a.toInt) ∨ (IntOp.maxsi a b = b ∧ a.toInt ≤ b.toInt) := by
    unfold IntOp.maxsi
    by_cases h : b.slt a = false
    · right
      rw [if_neg (by simp [h])]
      simp only [BitVec.slt, decide_eq_false_iff_not] at h
      exact ⟨rfl, not_lt.1 h⟩
    · left
      rw [Bool.not_eq_false] at h
      rw [if_pos h]
      simp only [BitVec.slt, decide_eq_true_eq] at h
      exact ⟨rfl, le_of_lt h⟩
  have hub : ∀ T : Finset ι, T ⊆ S → (T.fold IntOp.maxsi 2147483648#32 f).toInt ≤ M.toInt := by
    intro T
    induction T using Finset.induction_on with
    | empty => intro _; simp; have := M.le_toInt; simpa using this
    | insert a T ha ih =>
      intro hT
      rw [Finset.fold_insert ha]
      rcases hmax (f a) (T.fold IntOp.maxsi 2147483648#32 f) with h | h
      · rw [h.1]; exact hle a (hT (Finset.mem_insert_self a T))
      · rw [h.1]; exact ih fun x hx => hT (Finset.mem_insert_of_mem hx)
  have hlb : M.toInt ≤ (S.fold IntOp.maxsi 2147483648#32 f).toInt := by
    rw [← Finset.insert_erase hk, Finset.fold_insert (Finset.notMem_erase k S), he]
    rcases hmax M ((S.erase k).fold IntOp.maxsi 2147483648#32 f) with h | h <;> rw [h.1]
    exact h.2
  exact BitVec.eq_of_toInt_eq (le_antisymm (hub S (Finset.Subset.refl S)) hlb)

/-- A signed maximum of at least one value is one of them. -/
theorem fold_maxsi_mem {n : ℕ} (f : Fin (n + 1) → BitVec 32) :
    ∃ k, Finset.univ.fold IntOp.maxsi 2147483648#32 f = f k := by
  obtain ⟨k, _, hk⟩ := Finset.exists_max_image Finset.univ (fun k => (f k).toInt) ⟨0, Finset.mem_univ _⟩
  exact ⟨k, fold_maxsi_eq _ f (f k) hk k (Finset.mem_univ _) rfl⟩

theorem ofBits_f32 (b : BitVec 32) : Ideal.ofBits .f32 b = Ideal.ieee 8 23 b := rfl

theorem addi_shli_toNat (t k bit : ℕ) (hb : bit < 32) (h : t + k * 2 ^ bit < 4294967296) :
    IntOp.addi (BitVec.ofNat 32 t) (IntOp.shli .vector (BitVec.ofNat 32 k) (BitVec.ofNat 32 bit)) = BitVec.ofNat 32 (t + k * 2 ^ bit) := by
  have hk : k < 4294967296 := by
    rcases Nat.lt_or_ge k 4294967296 with h' | h'
    · exact h'
    · have := Nat.mul_le_mul h' (Nat.one_le_two_pow (n := bit)); omega
  have hbit : (BitVec.ofNat 32 bit).toNat = bit := by rw [BitVec.toNat_ofNat]; omega
  apply BitVec.eq_of_toNat_eq
  simp only [IntOp.addi, IntOp.shli, hbit, if_pos hb, BitVec.toNat_add, BitVec.shiftLeft_eq', BitVec.toNat_shiftLeft,
    BitVec.toNat_ofNat, Nat.shiftLeft_eq, Nat.mod_eq_of_lt hk]
  omega

/-- The float of the pattern `e · 2^23`, an exponent with no fraction. -/
theorem ofBits_exp (e : ℕ) (h0 : 0 < e) (h : e < 255) : Ideal.ofBits .f32 (BitVec.ofNat 32 e <<< 23) = (((2 : ℝ) ^ ((e : ℤ) - 127) : ℝ) : EReal) := by
  have hn : (BitVec.ofNat 32 e <<< 23).toNat = e * 8388608 := by
    simp [BitVec.toNat_shiftLeft, Nat.shiftLeft_eq]; omega
  have hs : ((BitVec.ofNat 32 e <<< 23).extractLsb' 31 1 == 1#1) = false := by
    rw [beq_eq_false_iff_ne]; intro hc
    have := congrArg BitVec.toNat hc
    simp only [BitVec.extractLsb'_toNat, hn, Nat.shiftRight_eq_div_pow] at this
    simp at this; omega
  have he : ((BitVec.ofNat 32 e <<< 23).extractLsb' 23 8).toNat = e := by
    simp only [BitVec.extractLsb'_toNat, hn, Nat.shiftRight_eq_div_pow]; omega
  have hf : ((BitVec.ofNat 32 e <<< 23).extractLsb' 0 23).toNat = 0 := by
    simp only [BitVec.extractLsb'_toNat, hn, Nat.shiftRight_eq_div_pow]; omega
  rw [ofBits_f32]
  unfold Ideal.ieee
  simp only [show 8 + 23 = 31 from rfl, hs, he, hf]
  rw [if_neg (by omega), if_neg (by omega)]
  simp only [Bool.false_eq_true, if_false]
  refine congrArg Real.toEReal ?_
  have h23 : ((e : ℤ) - (2 ^ (8 - 1) - 1) - (23 : ℕ)) = ((e : ℤ) - 127) - (23 : ℕ) := by norm_num
  rw [h23, zpow_sub₀ (by norm_num), zpow_natCast]
  push_cast
  field_simp
  norm_num

theorem ofBits_exp_top : Ideal.ofBits .f32 (BitVec.ofNat 32 255 <<< 23) = ⊤ := by
  simp [Ideal.ofBits, Ideal.ieee]

/-- The exponent search: the largest of `n` patterns `t + (k << bit)` whose float does not exceed `a`, or `t`. -/
def sb (n : ℕ) (a : EReal) (t bit : BitVec 32) : BitVec 32 :=
  Finset.univ.fold IntOp.maxsi 2147483648#32 fun k : Fin n =>
    if Ideal.ofBits .f32 (IntOp.addi t (IntOp.shli .vector (BitVec.ofNat 32 k.val) bit)) ≤ a then
      IntOp.addi t (IntOp.shli .vector (BitVec.ofNat 32 k.val) bit) else t

theorem addi_zero_shli (k : ℕ) : IntOp.addi 0#32 (IntOp.shli .vector (BitVec.ofNat 32 k) 23#32) = BitVec.ofNat 32 k <<< 23 := by
  simp [IntOp.addi, IntOp.shli]

/-- The search finds the exponent bits of a normal number. -/
theorem sb_exp (a : ℝ) (n : ℤ) (h1 : -126 ≤ n) (h2 : n ≤ 127) (ha : (2 : ℝ) ^ n ≤ a) (hb : a < (2 : ℝ) ^ (n + 1)) :
    sb 256 (a : EReal) 0#32 23#32 = BitVec.ofNat 32 (n + 127).toNat <<< 23 := by
  have hint (k : ℕ) (hk : k < 255) : (BitVec.ofNat 32 k <<< 23).toInt = k * 8388608 := by
    have hn : (BitVec.ofNat 32 k <<< 23).toNat = k * 8388608 := by
      simp [BitVec.toNat_shiftLeft, Nat.shiftLeft_eq]; omega
    rw [BitVec.toInt_eq_toNat_of_lt (by omega), hn]; push_cast; rfl
  have hm : (n + 127).toNat < 255 := by omega
  have hpos : 0 < (n + 127).toNat := by omega
  refine fold_maxsi_eq _ _ _ (fun k _ => ?_) (⟨(n + 127).toNat, by omega⟩ : Fin 256) (Finset.mem_univ _) ?_
  · rw [addi_zero_shli]
    split_ifs with h
    · rcases Nat.lt_or_ge k.val 255 with hk | hk
      · rw [hint _ hk, hint _ hm]
        rcases Nat.eq_zero_or_pos k.val with h0 | h0
        · rw [h0]; push_cast; positivity
        rw [ofBits_exp k.val h0 hk, EReal.coe_le_coe_iff] at h
        have := lt_of_le_of_lt h hb
        rw [zpow_lt_zpow_iff_right₀ (by norm_num)] at this
        have : (k.val : ℤ) ≤ (n + 127).toNat := by omega
        exact mul_le_mul_of_nonneg_right this (by norm_num)
      · have hk' : k.val = 255 := by have := k.isLt; omega
        rw [hk', ofBits_exp_top] at h
        exact absurd h (by simp)
    · rw [hint _ hm]; simp;
  · rw [addi_zero_shli, if_pos]
    rw [ofBits_exp _ hpos hm, EReal.coe_le_coe_iff]
    refine le_trans (le_of_eq ?_) ha
    congr 1; omega

/-- The search finds no exponent bits in zero. -/
theorem sb_zero : sb 256 0 0#32 23#32 = 0#32 := by
  refine fold_maxsi_eq _ _ _ (fun k _ => ?_) (0 : Fin 256) (Finset.mem_univ _) ?_
  · rw [addi_zero_shli]
    split_ifs with h
    · rcases Nat.eq_zero_or_pos k.val with h0 | h0
      · rw [h0]; simp
      rcases Nat.lt_or_ge k.val 255 with hk | hk
      · rw [ofBits_exp k.val h0 hk, ← EReal.coe_zero, EReal.coe_le_coe_iff] at h
        exact absurd h (not_le.2 (by positivity))
      · have hk' : k.val = 255 := by have := k.isLt; omega
        rw [hk', ofBits_exp_top] at h
        exact absurd h (by simp)
    · exact le_refl _
  · rw [addi_zero_shli]; simp

/-- A pattern whose exponent bits are not all ones is a real. -/
theorem ofBits_real (b : ℕ) (h1 : b < 4294967296) (h : b / 8388608 % 256 ≠ 255) : ∃ r : ℝ, Ideal.ofBits .f32 (BitVec.ofNat 32 b) = (r : EReal) := by
  have he : ((BitVec.ofNat 32 b).extractLsb' 23 8).toNat = b / 8388608 % 256 := by
    simp only [BitVec.extractLsb'_toNat, BitVec.toNat_ofNat, Nat.shiftRight_eq_div_pow, Nat.mod_eq_of_lt h1]
  rw [ofBits_f32]
  unfold Ideal.ieee
  simp only [he]
  rw [if_neg (by simpa using h)]
  split_ifs <;> exact ⟨_, rfl⟩

/-- A step of the search ends at one of its patterns. -/
theorem sb_mem (n : ℕ) (a : EReal) (t bit : ℕ) (hb : bit < 32) (h : t + n * 2 ^ bit < 4294967296) :
    ∃ k, k ≤ n ∧ sb (n + 1) a (BitVec.ofNat 32 t) (BitVec.ofNat 32 bit) = BitVec.ofNat 32 (t + k * 2 ^ bit)
      ∧ (k = 0 ∨ Ideal.ofBits .f32 (BitVec.ofNat 32 (t + k * 2 ^ bit)) ≤ a) := by
  unfold sb
  obtain ⟨k, hk⟩ := fold_maxsi_mem fun k : Fin (n + 1) =>
    if Ideal.ofBits .f32 (IntOp.addi (BitVec.ofNat 32 t) (IntOp.shli .vector (BitVec.ofNat 32 k.val) (BitVec.ofNat 32 bit))) ≤ a then
      IntOp.addi (BitVec.ofNat 32 t) (IntOp.shli .vector (BitVec.ofNat 32 k.val) (BitVec.ofNat 32 bit)) else BitVec.ofNat 32 t
  have hkn : k.val ≤ n := by omega
  have := Nat.mul_le_mul_right (2 ^ bit) hkn
  rw [hk, addi_shli_toNat t k.val bit hb (by omega)]
  split_ifs with hc
  · exact ⟨k.val, hkn, rfl, .inr hc⟩
  · exact ⟨0, Nat.zero_le _, by rw [Nat.zero_mul, Nat.add_zero], .inl rfl⟩

/-- The three-step search ends at the pattern of a real. -/
theorem sb_head (a : ℝ) : ∃ r : ℝ, Ideal.ofBits .f32 (sb 8 a (sb 16 a (sb 16 a 0#32 27#32) 23#32) 20#32) = (r : EReal) := by
  obtain ⟨k1, h1, e1, -⟩ := sb_mem 15 a 0 27 (by norm_num) (by norm_num)
  rw [Nat.zero_add] at e1
  obtain ⟨k2, h2, e2, f2⟩ := sb_mem 15 a (k1 * 2 ^ 27) 23 (by norm_num) (by norm_num; omega)
  obtain ⟨k3, h3, e3, -⟩ := sb_mem 7 a (k1 * 2 ^ 27 + k2 * 2 ^ 23) 20 (by norm_num) (by norm_num; omega)
  have e : sb 8 a (sb 16 a (sb 16 a 0#32 27#32) 23#32) 20#32 = BitVec.ofNat 32 (k1 * 2 ^ 27 + k2 * 2 ^ 23 + k3 * 2 ^ 20) := by
    rw [← e3, ← e2, ← e1]
  rw [e]
  apply ofBits_real _ (by norm_num; omega)
  · by_cases hx : 16 * k1 + k2 = 255
    · exfalso
      rcases f2 with f2 | f2
      · omega
      · have hk1 : k1 = 15 := by omega
        have hk2 : k2 = 15 := by omega
        rw [hk1, hk2, show BitVec.ofNat 32 (15 * 2 ^ 27 + 15 * 2 ^ 23) = BitVec.ofNat 32 255 <<< 23 by decide, ofBits_exp_top] at f2
        exact absurd f2 (by simp)
    · norm_num; omega

end Cert.Proof
end
-- ==== Proof.Reads.lean ====
/- The kernel's tile operations over the reals, read at an index. -/
module

public import proofs.«01_k».proof.Proof.Scalar
public import Idealize.ShloMosaic.Lib.Pointwise

@[expose] public section

set_option maxRecDepth 16384

noncomputable section

namespace Cert.Proof

open Idealize.ShloMosaic

/-- The mask that clears a code of minus zero. -/
def clr (p : BitVec 32) : BitVec 32 :=
  IntOp.andi p (IntOp.ori (IntOp.addi (IntOp.andi p 2004318071#32) 2004318071#32) 2004318071#32)

/-- The tile operations that move values between rows, read at an index: at each size, one simplification. -/
class Rd (R nb q : ℕ) [Ev R nb q] : Prop where
  blocks : 32 * nb = R
  words : 8 * q = R
  bE (x : FVec Ideal ⟨2, ![nb, 128]⟩ .f32) (t : IVec ⟨2, ![nb, 128]⟩ 32) (bit : BitVec 32) (i : Fin nb) (j : Fin 128) :
    bound x t bit (Ev.eIota R (nb := nb) q) (Ev.e1 R q) (Ev.e1' R q) (Ev.eB R q) (Ev.eMax R q) (ix2 i j) = sb 256 (x (ix2 i j)) (t (ix2 i j)) bit
  b16 (x : FVec Ideal ⟨2, ![R, 128]⟩ .f32) (t : IVec ⟨2, ![R, 128]⟩ 32) (bit : BitVec 32) (i : Fin R) (j : Fin 128) :
    bound x t bit (Ev.t16Iota nb q) (Ev.t1 nb q) (Ev.t1' nb q) (Ev.t16B nb q) (Ev.t16Max nb q) (ix2 i j) = sb 16 (x (ix2 i j)) (t (ix2 i j)) bit
  b8 (x : FVec Ideal ⟨2, ![R, 128]⟩ .f32) (t : IVec ⟨2, ![R, 128]⟩ 32) (bit : BitVec 32) (i : Fin R) (j : Fin 128) :
    bound x t bit (Ev.t8Iota nb q) (Ev.t1 nb q) (Ev.t1' nb q) (Ev.t8B nb q) (Ev.t8Max nb q) (ix2 i j) = sb 8 (x (ix2 i j)) (t (ix2 i j)) bit
  amax (w : FVec Ideal ⟨2, ![R, 128]⟩ .bf16) (i : Fin nb) (j : Fin 128) : amaxT (nb := nb) (q := q) w (ix2 i j)
    = Finset.univ.fold max (Ideal.ofBits .f32 4286578688#32) fun x : Fin 32 =>
      FloatOps.absf (F := Ideal) (φ := .f32) (w (ix2 ⟨i.val * 32 + x.val, by have := blocks; omega⟩ j))
  v (w : FVec Ideal ⟨2, ![R, 128]⟩ .bf16) (k : Fin R) (j : Fin 128) : vT (nb := nb) (q := q) w (ix2 k j)
    = w (ix2 k j) * invT (nb := nb) (q := q) w (ix2 ⟨k.val / 32, by have := blocks; omega⟩ j)
  mm (a : FVec Ideal ⟨4, ![1, 1, 32, R]⟩ .bf16) (b : FVec Ideal ⟨2, ![R, 128]⟩ .bf16) (i : Fin 32) (j : Fin 128) :
    mmT (nb := nb) (q := q) a b (ix2 i j) = ∑ x : Fin R, a (ix4 0 0 i x) * b (ix2 x j)
  word (w : FVec Ideal ⟨2, ![R, 128]⟩ .bf16) (i : Fin q) (j : Fin 128) : wordT (nb := nb) (q := q) w (ix2 i j)
    = clr (Finset.univ.fold IntOp.addi 0#32 fun x : Fin 8 =>
        IntOp.shli .vector (nibT (nb := nb) (q := q) (vT (nb := nb) (q := q) w) (ix2 ⟨i.val * 8 + x.val, by have := words; omega⟩ j))
          (IntOp.shli .vector (IntOp.andi (BitVec.ofNat 32 (i.val * 8 + x.val)) 7#32) 2#32))

instance : Rd 256 8 32 := by
  refine ⟨rfl, rfl, ?_, ?_, ?_, ?_, ?_, ?_, ?_⟩ <;> intros <;> pointwise [bound, sb, amaxT, vT, mmT, tdot, wordT, clr]

instance : Rd 64 2 8 := by
  refine ⟨rfl, rfl, ?_, ?_, ?_, ?_, ?_, ?_, ?_⟩ <;> intros <;> pointwise [bound, sb, amaxT, vT, mmT, tdot, wordT, clr]

end Cert.Proof
end
-- ==== Proof.Round.lean ====
/- Rounding to the four-bit grid, over the reals. -/
module
public import proofs.«01_k».proof.Proof.Scalar
@[expose] public section
set_option maxRecDepth 16384
noncomputable section
namespace Cert.Proof
open Idealize.ShloMosaic

/-! ### Rounding to the four-bit grid -/

/-- Rounding to even is odd. -/
theorem rhe_neg (r : ℝ) : Ideal.roundHalfEven (-r) = -Ideal.roundHalfEven r := by
  unfold Ideal.roundHalfEven
  rcases eq_or_ne (⌊r⌋ : ℝ) r with h | h
  · have h2 : ⌊-r⌋ = -⌊r⌋ := by rw [← h, ← Int.cast_neg, Int.floor_intCast, Int.floor_intCast]
    simp only [h2]
    push_cast
    rw [if_pos (by linarith), if_pos (by linarith)]
  · have hl := Int.floor_le r
    have hu := Int.lt_floor_add_one r
    have hl' : (⌊r⌋ : ℝ) < r := lt_of_le_of_ne hl h
    have h2 : ⌊-r⌋ = -⌊r⌋ - 1 := by
      rw [Int.floor_eq_iff]; push_cast; constructor <;> linarith
    have hev : Even (-⌊r⌋ - 1) ↔ ¬ Even ⌊r⌋ := by rw [Int.even_sub_one, even_neg]
    simp only [h2, hev]
    push_cast
    rcases lt_trichotomy (r - ⌊r⌋) (1 / 2) with c | c | c
    · rw [if_neg (by linarith), if_pos (by linarith), if_pos c]; omega
    · have c1 : -r - (-⌊r⌋ - 1) = 1 / 2 := by linarith
      rw [c, c1]
      by_cases he : Even ⌊r⌋ <;> simp only [he, lt_irrefl, if_true, if_false, not_true, not_false_iff] <;> omega
    · rw [if_pos (by linarith), if_neg (by linarith), if_pos c]; omega

theorem le_rhe {r : ℝ} {m : ℤ} (h : (m : ℝ) ≤ r) : m ≤ Ideal.roundHalfEven r := by
  have := Int.le_floor.2 h
  unfold Ideal.roundHalfEven
  simp only []
  split_ifs <;> omega

theorem rhe_le {r : ℝ} {m : ℤ} (h : r ≤ m) : Ideal.roundHalfEven r ≤ m := by
  have := le_rhe (r := -r) (m := -m) (by push_cast; linarith)
  rw [rhe_neg] at this
  omega

/-- The step of the four-bit grid at `t`. -/
def stepR (t : ℝ) : ℝ := if |t| < 2 then 1 / 2 else if |t| < 4 then 1 else 2

/-- The number of steps that `t` rounds to. -/
def countR (t : ℝ) : ℤ := Ideal.roundHalfEven (min 6 (max (-6) t) / stepR t)

/-- The magnitude that `t` rounds to on the four-bit grid. -/
def magR (t : ℝ) : ℝ :=
  if min |t| 6 < 2 then (Ideal.roundHalfEven (2 * min |t| 6) : ℝ) / 2
  else if min |t| 6 < 4 then (Ideal.roundHalfEven (min |t| 6) : ℝ) else 2 * (Ideal.roundHalfEven (min |t| 6 / 2) : ℝ)

/-- The code of `t`: its count of steps, shifted to the grid's own numbering, with the sign as the fourth bit. -/
def nibR (t : ℝ) : ℕ :=
  (|countR t| + (if |t| < 2 then 0 else if |t| < 4 then 2 else 4) + (if countR t < 0 then 8 else 0)).toNat

theorem stepR_neg (t : ℝ) : stepR (-t) = stepR t := by unfold stepR; rw [abs_neg]
theorem magR_neg (t : ℝ) : magR (-t) = magR t := by unfold magR; rw [abs_neg]
theorem countR_neg (t : ℝ) : countR (-t) = -countR t := by
  unfold countR
  rw [stepR_neg, ← rhe_neg]
  congr 1
  rw [neg_div']
  congr 1
  rw [← max_neg_neg, ← min_neg_neg, neg_neg]
  rcases le_total t 6 with h | h <;> rcases le_total t (-6) with h' | h' <;>
    simp [min_def, max_def] <;> split_ifs <;> linarith

/-- The three ranges of a magnitude: its count of steps and the value of the grid it stands for. -/
theorem ranges {t : ℝ} (h : 0 ≤ t) :
    (t < 2 ∧ 0 ≤ countR t ∧ countR t ≤ 4 ∧ magR t = countR t / 2 ∧ stepR t = 1 / 2)
      ∨ (2 ≤ t ∧ t < 4 ∧ 2 ≤ countR t ∧ countR t ≤ 4 ∧ magR t = countR t ∧ stepR t = 1)
      ∨ (4 ≤ t ∧ 2 ≤ countR t ∧ countR t ≤ 3 ∧ magR t = 2 * countR t ∧ stepR t = 2) := by
  unfold countR magR stepR
  rw [abs_of_nonneg h, max_eq_right (by linarith : (-6 : ℝ) ≤ t)]
  rcases lt_or_ge t 2 with c | c
  · left
    rw [min_eq_left (by linarith : t ≤ 6), min_eq_right (by linarith : t ≤ 6), if_pos c, if_pos c]
    have e : t / (1 / 2) = 2 * t := by ring
    rw [e]
    exact ⟨c, le_rhe (by push_cast; linarith), rhe_le (by push_cast; linarith), rfl, rfl⟩
  rcases lt_or_ge t 4 with d | d
  · right; left
    rw [min_eq_left (by linarith : t ≤ 6), min_eq_right (by linarith : t ≤ 6)]
    simp only [not_lt.2 c, d, if_true, if_false, div_one]
    exact ⟨c, trivial, le_rhe (by push_cast; linarith), rhe_le (by push_cast; linarith), trivial, trivial⟩
  · right; right
    have h1 : 4 ≤ min t 6 := le_min d (by norm_num)
    have h2 : min t 6 ≤ 6 := min_le_right _ _
    rw [min_comm 6 t]
    simp only [not_lt.2 c, not_lt.2 d, not_lt.2 h1, not_lt.2 (le_trans (by norm_num : (2 : ℝ) ≤ 4) h1), if_false]
    exact ⟨d, le_rhe (by push_cast; linarith), rhe_le (by push_cast; linarith), trivial, trivial⟩

/-- A count of steps is the signed magnitude. -/
theorem count_mul_step (t : ℝ) : (countR t : ℝ) * stepR t = ((SignType.sign t : ℤ) : ℝ) * magR t := by
  have pos : ∀ {t : ℝ}, 0 ≤ t → (countR t : ℝ) * stepR t = magR t := by
    intro t h
    rcases ranges h with ⟨-, -, -, e, f⟩ | ⟨-, -, -, -, e, f⟩ | ⟨-, -, -, e, f⟩ <;> rw [e, f] <;> ring
  rcases lt_trichotomy t 0 with h | h | h
  · have := pos (t := -t) (by linarith)
    rw [countR_neg, stepR_neg, magR_neg] at this
    rw [sign_neg h, ← this]; simp
  · subst h
    have h0 : countR 0 = 0 := by have := countR_neg 0; rw [neg_zero] at this; omega
    rw [h0]; simp
  · rw [sign_pos h, pos h.le]; simp

theorem nibR_lt (t : ℝ) : nibR t < 16 ∧ nibR t ≠ 8 := by
  unfold nibR
  rcases le_total 0 t with h | h
  · have := ranges h
    rw [abs_of_nonneg h]
    rcases this with ⟨c, a, b, -, -⟩ | ⟨c, d, a, b, -, -⟩ | ⟨c, a, b, -, -⟩
    · rw [if_pos c, abs_of_nonneg a, if_neg (by omega)]; omega
    · rw [if_neg (by linarith), if_pos d, abs_of_nonneg (by omega), if_neg (by omega)]; omega
    · rw [if_neg (by linarith), if_neg (by linarith), abs_of_nonneg (by omega), if_neg (by omega)]; omega
  · have := ranges (t := -t) (by linarith)
    rw [countR_neg] at this
    rw [abs_of_nonpos h]
    rcases this with ⟨c, a, b, -, -⟩ | ⟨c, d, a, b, -, -⟩ | ⟨c, a, b, -, -⟩
    · rw [if_pos c, abs_of_nonpos (by omega)]; split_ifs <;> omega
    · rw [if_neg (by linarith), if_pos d, abs_of_nonpos (by omega)]; split_ifs <;> omega
    · rw [if_neg (by linarith), if_neg (by linarith), abs_of_nonpos (by omega)]; split_ifs <;> omega

end Cert.Proof
end
-- ==== Proof.Block.lean ====
/- The kernel's tile operations over the reals: a block's scale, the scaled weights, their errors and their codes. -/
module

public import proofs.«01_k».proof.Proof.Reads
public import proofs.«01_k».proof.Proof.Round

@[expose] public section

set_option maxRecDepth 16384

noncomputable section

namespace Cert.Proof

open Idealize.ShloMosaic

/-- A block's power of two `u`, its reciprocal `r` and its scale byte: from the exponent `n` of the block's largest magnitude,
    or, of a block of zeros, `0`, `0` and `127`. -/
inductive Scale (f : Fin 32 → ℝ) : ℝ → ℝ → ℕ → Prop
  | zero : (∀ x, f x = 0) → Scale f 0 0 127
  | top (n : ℤ) : -124 ≤ n → n ≤ 127 → (∀ x, |f x| < (2 : ℝ) ^ (n + 1)) → (∃ x, (2 : ℝ) ^ n ≤ |f x|) →
      Scale f ((2 : ℝ) ^ (n - 2)) ((2 : ℝ) ^ (2 - n)) (n + 125).toNat

theorem ofBits_bot : Ideal.ofBits .f32 4286578688#32 = ⊥ := by simp [Ideal.ofBits, Ideal.ieee]

theorem absf_coe (r : ℝ) : FloatOps.absf (F := Ideal) (φ := .f32) (r : EReal) = ((|r| : ℝ) : EReal) := by
  show max (r : EReal) (-(r : EReal)) = _
  rw [← EReal.coe_neg]
  exact (EReal.coe_strictMono.monotone.map_max (a := r) (b := -r)).symm

theorem select_eq {α : Type} (a b : BitVec 32) (x y : α) : Scalar.select (IntOp.cmpi .eq a b) x y = if a = b then x else y := by
  by_cases h : a = b
  · simp [Scalar.select, IntOp.cmpi, h]
  · have : (a == b) = false := beq_false_of_ne h
    simp [Scalar.select, IntOp.cmpi, h, this]

/-- The largest of a block's magnitudes is one of them. -/
theorem fold_max_abs (f : Fin 32 → ℝ) :
    ∃ x, (∀ y, |f y| ≤ |f x|) ∧ (Finset.univ.fold max (⊥ : EReal) fun x => ((|f x| : ℝ) : EReal)) = ((|f x| : ℝ) : EReal) := by
  obtain ⟨x, -, hx⟩ := Finset.exists_max_image Finset.univ (fun x => |f x|) ⟨0, Finset.mem_univ _⟩
  refine ⟨x, fun y => hx y (Finset.mem_univ y), le_antisymm ?_ ?_⟩
  · rw [Finset.fold_max_le]
    exact ⟨bot_le, fun y hy => EReal.coe_le_coe_iff.2 (hx y hy)⟩
  · rw [Finset.le_fold_max]
    exact .inr ⟨x, Finset.mem_univ x, le_refl _⟩

theorem shrsi_shl (e : ℕ) (h : e < 255) : IntOp.shrsi .vector (BitVec.ofNat 32 e <<< 23) 23#32 = BitVec.ofNat 32 e := by
  have hn : (BitVec.ofNat 32 e <<< 23).toNat = e * 8388608 := by
    simp [BitVec.toNat_shiftLeft, Nat.shiftLeft_eq]; omega
  unfold IntOp.shrsi
  rw [if_pos (by decide)]
  apply BitVec.eq_of_toNat_eq
  rw [BitVec.sshiftRight', BitVec.toNat_sshiftRight_of_msb_false, hn, Nat.shiftRight_eq_div_pow]
  · simp; omega
  · rw [BitVec.msb_eq_false_iff_two_mul_lt, hn]; omega

theorem Rd.rows (R nb q : ℕ) [Ev R nb q] [Rd R nb q] : 32 * nb = R := Rd.blocks q

section
variable {R nb q : ℕ} [Ev R nb q] [Rd R nb q]

/-- The rows of block `i` in column `j`. -/
def blkCol (R nb q : ℕ) [Ev R nb q] [Rd R nb q] (W : Fin R → ℝ) (i : Fin nb) (x : Fin 32) : ℝ :=
  W ⟨i.val * 32 + x.val, by have := Rd.rows R nb q; omega⟩

variable (w : FVec Ideal ⟨2, ![R, 128]⟩ .bf16) (j : Fin 128) (W : Fin R → ℝ) (hw : ∀ k, w (ix2 k j) = ((W k : ℝ) : EReal))
include hw

theorem amaxT_real (i : Fin nb) : ∃ x, (∀ y, |blkCol R nb q W i y| ≤ |blkCol R nb q W i x|) ∧
    amaxT (nb := nb) (q := q) w (ix2 i j) = ((|blkCol R nb q W i x| : ℝ) : EReal) := by
  rw [Rd.amax w i j, ofBits_bot]
  simp only [hw, absf_coe]
  exact fold_max_abs (blkCol R nb q W i)

/-- The exponent bits of a block. -/
theorem ebT_real (i : Fin nb) : ((∀ x, blkCol R nb q W i x = 0) → ebT (nb := nb) (q := q) w (ix2 i j) = 0#32) ∧
    (∀ n : ℤ, -126 ≤ n → n ≤ 127 → (∀ x, |blkCol R nb q W i x| < (2 : ℝ) ^ (n + 1)) → (∃ x, (2 : ℝ) ^ n ≤ |blkCol R nb q W i x|) →
      ebT (nb := nb) (q := q) w (ix2 i j) = BitVec.ofNat 32 (n + 127).toNat) := by
  obtain ⟨x, hx, e⟩ := amaxT_real (q := q) w j W hw i
  have he : ebT (nb := nb) (q := q) w (ix2 i j) = IntOp.shrsi .vector (sb 256 (amaxT (nb := nb) (q := q) w (ix2 i j)) 0#32 23#32) 23#32 := by
    exact congrArg (fun t => IntOp.shrsi .vector t 23#32)
      (Rd.bE (R := R) (nb := nb) (q := q) (amaxT (nb := nb) (q := q) w) (broadcast ⟨2, ![nb, 128]⟩ 0#32) 23#32 i j)
  rw [he, e]
  constructor
  · intro hz
    rw [hz x, abs_zero, EReal.coe_zero, sb_zero]
    decide
  · intro n h1 h2 hl ⟨y, hy⟩
    rw [sb_exp _ n h1 h2 (le_trans hy (hx y)) (hl x), shrsi_shl _ (by omega)]

/-- What the exponent bits give: the scale byte, the power of two and its reciprocal. -/
theorem scale_real (i : Fin nb) {u r : ℝ} {sc : ℕ} (h : Scale (blkCol R nb q W i) u r sc) :
    scaleT (nb := nb) (q := q) w (ix2 i j) = BitVec.ofNat 32 sc ∧ unitT (nb := nb) (q := q) w (ix2 i j) = (u : EReal)
      ∧ invT (nb := nb) (q := q) w (ix2 i j) = (r : EReal) := by
  have hs : scaleT (nb := nb) (q := q) w (ix2 i j) = if ebT (nb := nb) (q := q) w (ix2 i j) = 0#32 then 127#32
      else IntOp.subi (ebT (nb := nb) (q := q) w (ix2 i j)) 2#32 := by
    unfold scaleT; pointwise; rw [select_eq]
  have hu : unitT (nb := nb) (q := q) w (ix2 i j) = Ideal.ofBits .f32 (if ebT (nb := nb) (q := q) w (ix2 i j) = 0#32 then 0#32
      else IntOp.shli .vector (IntOp.subi (ebT (nb := nb) (q := q) w (ix2 i j)) 2#32) 23#32) := by
    unfold unitT; pointwise; rw [select_eq]
  have hi : invT (nb := nb) (q := q) w (ix2 i j) = if ebT (nb := nb) (q := q) w (ix2 i j) = 0#32 then (0 : EReal)
      else Ideal.ofBits .f32 (IntOp.shli .vector (IntOp.subi 256#32 (ebT (nb := nb) (q := q) w (ix2 i j))) 23#32) := by
    unfold invT; pointwise; rw [select_eq]
  rw [hs, hu, hi]
  obtain ⟨e0, e1⟩ := ebT_real (q := q) w j W hw i
  cases h with
  | zero hz =>
    rw [e0 hz, if_pos rfl, if_pos rfl, if_pos rfl]
    exact ⟨rfl, by simp, by simp⟩
  | top n h1 h2 hl hg =>
    have hne : BitVec.ofNat 32 (n + 127).toNat ≠ 0#32 := by
      intro hc; have := congrArg BitVec.toNat hc; simp at this; omega
    have s1 : IntOp.subi (BitVec.ofNat 32 (n + 127).toNat) 2#32 = BitVec.ofNat 32 (n + 125).toNat := by
      apply BitVec.eq_of_toNat_eq; simp [IntOp.subi]; omega
    have s2 : IntOp.subi 256#32 (BitVec.ofNat 32 (n + 127).toNat) = BitVec.ofNat 32 (129 - n).toNat := by
      apply BitVec.eq_of_toNat_eq; simp [IntOp.subi]; omega
    have sh (e : ℕ) : IntOp.shli .vector (BitVec.ofNat 32 e) 23#32 = BitVec.ofNat 32 e <<< 23 := by simp [IntOp.shli]
    rw [e1 n (by omega) h2 hl hg, if_neg hne, if_neg hne, if_neg hne, s1, s2, sh, sh, ofBits_exp _ (by omega) (by omega),
      ofBits_exp _ (by omega) (by omega)]
    refine ⟨rfl, ?_, ?_⟩ <;> refine congrArg Real.toEReal (congrArg _ ?_) <;> omega

/-- The scaled weights. -/
theorem vT_real (i : Fin nb) {u r : ℝ} {sc : ℕ} (h : Scale (blkCol R nb q W i) u r sc) (k : Fin R) (hk : k.val / 32 = i.val) :
    vT (nb := nb) (q := q) w (ix2 k j) = ((W k * r : ℝ) : EReal) := by
  rw [Rd.v, hw, show (⟨k.val / 32, by have := Rd.rows R nb q; omega⟩ : Fin nb) = i from Fin.ext hk, (scale_real (q := q) w j W hw i h).2.2,
    EReal.coe_mul]
end

end Cert.Proof
end
-- ==== Proof.Tally.lean ====
/- The kernel's errors of one candidate and its codes, on a tile over the reals. -/
module

public import proofs.«01_k».proof.Proof.Block

@[expose] public section

set_option maxRecDepth 16384

noncomputable section

namespace Cert.Proof

open Idealize.ShloMosaic

theorem ofBits_two : Ideal.ofBits .bf16 0x4000#16 = ((2 : ℝ) : EReal) := by
  simp [Ideal.ofBits, Ideal.ieee, -EReal.coe_mul]; norm_num
theorem ofBits_half : Ideal.ofBits .bf16 0x3F00#16 = ((1 / 2 : ℝ) : EReal) := by
  simp [Ideal.ofBits, Ideal.ieee, -EReal.coe_mul]; norm_num
theorem ofBits_four : Ideal.ofBits .bf16 0x4080#16 = ((4 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_neg_six : Ideal.ofBits .f32 0xC0C00000#32 = ((-6 : ℝ) : EReal) := by
  simp [Ideal.ofBits, Ideal.ieee, -EReal.coe_mul, -EReal.coe_neg]; norm_num

/-- The factor of a candidate and the scales of its two products. -/
inductive Factor : BitVec 16 → ℝ → ℝ → ℝ → Prop
  | half : Factor 0x4000#16 2 (1 / 4) 1
  | one : Factor 0x3F80#16 1 1 2
  | two : Factor 0x3F00#16 (1 / 2) 4 4

theorem Factor.bits {up : BitVec 16} {U a b : ℝ} (h : Factor up U a b) : Ideal.ofBits .bf16 up = (U : EReal) := by
  cases h
  · exact ofBits_two
  · rw [Ideal.ofBits_one_bf16]; rfl
  · exact ofBits_half

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem min_coe (a b : ℝ) : min (a : EReal) (b : EReal) = ((min a b : ℝ) : EReal) := (EReal.coe_strictMono.monotone.map_min).symm
theorem max_coe (a b : ℝ) : max (a : EReal) (b : EReal) = ((max a b : ℝ) : EReal) := (EReal.coe_strictMono.monotone.map_max).symm

theorem stepR_ne (t : ℝ) : stepR t ≠ 0 := by unfold stepR; split_ifs <;> norm_num

section
variable {R nb q : ℕ} [Ev R nb q] [Rd R nb q]
variable (v : FVec Ideal ⟨2, ![R, 128]⟩ .bf16) (i : (⟨2, ![R, 128]⟩ : Shape).Idx) (x : ℝ) (hv : v i = (x : EReal))
variable (up : BitVec 16) (U : ℝ) (hU : Ideal.ofBits .bf16 up = (U : EReal))
include hv hU

theorem stepT_real : stepT v up i = ((stepR (x * U) : ℝ) : EReal) := by
  have h : stepT v up i = if FloatOps.absf (F := Ideal) (φ := .f32) (v i * Ideal.ofBits .bf16 up) < Ideal.ofBits .bf16 0x4000#16 then Ideal.ofBits .bf16 0x3F00#16
      else if FloatOps.absf (F := Ideal) (φ := .f32) (v i * Ideal.ofBits .bf16 up) < Ideal.ofBits .bf16 0x4080#16 then Ideal.ofBits .bf16 0x3F80#16
        else Ideal.ofBits .bf16 0x4000#16 := by
    unfold stepT; pointwise; rfl
  rw [h, hv, hU, ← EReal.coe_mul, absf_coe, ofBits_two, ofBits_half, ofBits_four, Ideal.ofBits_one_bf16]
  simp only [EReal.coe_lt_coe_iff]
  unfold stepR
  split_ifs <;> rfl

theorem countT_real : countT (nb := nb) (q := q) v up i = (((countR (x * U) : ℤ) : ℝ) : EReal) := by
  have h : countT (nb := nb) (q := q) v up i = Ideal.liftRound Ideal.roundHalfEven (Ideal.div
      (min (Ideal.ofBits .f32 0x40C00000#32) (max (Ideal.ofBits .f32 0xC0C00000#32) (v i * Ideal.ofBits .bf16 up))) (stepT v up i)) := by
    unfold countT; pointwise
  rw [h, stepT_real v i x hv up U hU, hv, hU, ← EReal.coe_mul, ofBits_six, ofBits_neg_six, max_coe, min_coe, div_coe _ _ (stepR_ne _)]
  rfl
end

section
variable {R nb q : ℕ} [Ev R nb q] [Rd R nb q]
variable (v : FVec Ideal ⟨2, ![R, 128]⟩ .bf16)

/-- A scaled weight's leading bits are a real. -/
theorem hatT_real (k : Fin R) (j : Fin 128) (x : ℝ) (hv : v (ix2 k j) = (x : EReal)) : ∃ r : ℝ, hatT (nb := nb) (q := q) v (ix2 k j) = (r : EReal) := by
  have h : hatT (nb := nb) (q := q) v (ix2 k j) = if v (ix2 k j) < 0 then
      0 - Ideal.ofBits .f32 (sb 8 (FloatOps.absf (F := Ideal) (φ := .f32) (v (ix2 k j))) (sb 16 (FloatOps.absf (F := Ideal) (φ := .f32) (v (ix2 k j)))
        (sb 16 (FloatOps.absf (F := Ideal) (φ := .f32) (v (ix2 k j))) 0#32 27#32) 23#32) 20#32)
      else Ideal.ofBits .f32 (sb 8 (FloatOps.absf (F := Ideal) (φ := .f32) (v (ix2 k j))) (sb 16 (FloatOps.absf (F := Ideal) (φ := .f32) (v (ix2 k j)))
        (sb 16 (FloatOps.absf (F := Ideal) (φ := .f32) (v (ix2 k j))) 0#32 27#32) 23#32) 20#32) := by
    unfold hatT
    pointwise
    rw [Rd.b8 (R := R) (nb := nb) (q := q), Rd.b16 (R := R) (nb := nb) (q := q), Rd.b16 (R := R) (nb := nb) (q := q)]
    rfl
  rw [h, hv, absf_coe]
  obtain ⟨r, hr⟩ := sb_head |x|
  rw [hr]
  split_ifs
  · exact ⟨0 - r, by rw [EReal.coe_sub]; rfl⟩
  · exact ⟨r, rfl⟩
end

theorem coe_sum {ι : Type} (S : Finset ι) (f : ι → ℝ) : ((∑ x ∈ S, f x : ℝ) : EReal) = ∑ x ∈ S, (f x : EReal) := by
  classical
  induction S using Finset.induction_on with
  | empty => simp
  | insert a S ha ih => rw [Finset.sum_insert ha, Finset.sum_insert ha, EReal.coe_add, ih]

section
variable {R nb q : ℕ} [Ev R nb q] [Rd R nb q]

/-- Row `x` of block `i`. -/
def blkRow (R nb q : ℕ) [Ev R nb q] [Rd R nb q] (i : Fin nb) (x : Fin 32) : Fin R :=
  ⟨i.val * 32 + x.val, by have := Rd.rows R nb q; omega⟩

/-- A sum over the rows of one block. -/
theorem sum_block (i : Fin nb) (g : Fin R → EReal) :
    (∑ k : Fin R, if k.val / 32 = i.val then g k else 0) = ∑ x : Fin 32, g (blkRow R nb q i x) := by
  rw [← Finset.sum_filter]
  refine Finset.sum_nbij' (fun k => (⟨k.val % 32, by omega⟩ : Fin 32)) (fun x => blkRow R nb q i x) ?_ ?_ ?_ ?_ ?_
  · intro k _; exact Finset.mem_univ _
  · intro x _
    rw [Finset.mem_filter]
    refine ⟨Finset.mem_univ _, ?_⟩
    show (i.val * 32 + x.val) / 32 = i.val
    omega
  · intro k hk
    rw [Finset.mem_filter] at hk
    apply Fin.ext
    show i.val * 32 + k.val % 32 = k.val
    omega
  · intro x _
    apply Fin.ext
    show (i.val * 32 + x.val) % 32 = x.val
    omega
  · intro k hk
    rw [Finset.mem_filter] at hk
    congr 1
    apply Fin.ext
    show k.val = i.val * 32 + k.val % 32
    omega

/-- A left operand whose row `r` holds `H` times `s` on block `r` and zero elsewhere. -/
def Lhs (H : Fin R → ℝ) (s : ℝ) (a : FVec Ideal ⟨4, ![1, 1, 32, R]⟩ .bf16) : Prop :=
  ∀ (r : Fin 32) (k : Fin R), a (ix4 0 0 r k) = ((if k.val / 32 = r.val then H k * s else 0 : ℝ) : EReal)

variable {H : Fin R → ℝ} {s : ℝ} {a : FVec Ideal ⟨4, ![1, 1, 32, R]⟩ .bf16} (ha : Lhs H s a)
include ha

theorem mm_hit (b : FVec Ideal ⟨2, ![R, 128]⟩ .bf16) (r : Fin 32) (i : Fin nb) (hr : r.val = i.val) (j : Fin 128) (B : Fin 32 → ℝ)
    (hB : ∀ x, b (ix2 (blkRow R nb q i x) j) = ((B x : ℝ) : EReal)) :
    mmT (nb := nb) (q := q) a b (ix2 r j) = ((∑ x, H (blkRow R nb q i x) * s * B x : ℝ) : EReal) := by
  have e : ∀ k : Fin R, a (ix4 0 0 r k) * b (ix2 k j) = if k.val / 32 = i.val then ((H k * s : ℝ) : EReal) * b (ix2 k j) else 0 := by
    intro k
    rw [ha r k, hr]
    split_ifs
    · rfl
    · rw [EReal.coe_zero, zero_mul]
  rw [Rd.mm, Finset.sum_congr rfl fun k _ => e k, sum_block (q := q), coe_sum]
  refine Finset.sum_congr rfl fun x _ => ?_
  rw [hB, ← EReal.coe_mul]

theorem mm_miss (b : FVec Ideal ⟨2, ![R, 128]⟩ .bf16) (r : Fin 32) (hr : nb ≤ r.val) (j : Fin 128) :
    mmT (nb := nb) (q := q) a b (ix2 r j) = ((0 : ℝ) : EReal) := by
  rw [Rd.mm]
  refine Finset.sum_eq_zero fun k _ => ?_
  have := Rd.rows R nb q
  rw [ha r k, if_neg (by omega), EReal.coe_zero, zero_mul]
end

section
variable {R nb q : ℕ} [Ev R nb q] [Rd R nb q]

/-- The error of a block whose values are `f`, under the weights `h`: what is left of each value by the rounding of its
    product with `r` times `U`, in units of `u` over `U`. -/
def errR (h f : Fin 32 → ℝ) (u r U : ℝ) : ℝ :=
  ∑ x, h x * (f x - countR (f x * r * U) * stepR (f x * r * U) * (u / U)) ^ 2

/-- One candidate's error on a block: the two products that depend on the candidate complete the square. -/
theorem totT_real (hn : nb ≤ 8) {up : BitVec 16} {U sa sb : ℝ} (hf : Factor up U sa sb) (H : Fin R → ℝ)
    {a1 asq acr : FVec Ideal ⟨4, ![1, 1, 32, R]⟩ .bf16} (h1 : Lhs H 1 a1) (hsq : Lhs H sa asq) (hcr : Lhs H sb acr)
    (w : FVec Ideal ⟨2, ![R, 128]⟩ .bf16) (j : Fin 128) (W : Fin R → ℝ) (hw : ∀ k, w (ix2 k j) = ((W k : ℝ) : EReal))
    (i8 : Fin 8) (i : Fin nb) (hi : i8.val = i.val) {u r : ℝ} {sc : ℕ} (hs : Scale (blkCol R nb q W i) u r sc) :
    totT (nb := nb) (q := q) w up a1 asq acr (ix2 i8 j) * (u : EReal) * (u : EReal)
      = ((errR (fun x => H (blkRow R nb q i x)) (blkCol R nb q W i) u r U : ℝ) : EReal) := by
  have hU := hf.bits
  have hv : ∀ x, vT (nb := nb) (q := q) w (ix2 (blkRow R nb q i x) j) = ((blkCol R nb q W i x * r : ℝ) : EReal) := fun x =>
    vT_real w j W hw i hs (blkRow R nb q i x) (by show (i.val * 32 + x.val) / 32 = i.val; omega)
  choose t ht using fun x => hatT_real (nb := nb) (q := q) (vT (nb := nb) (q := q) w) (blkRow R nb q i x) j _ (hv x)
  have hc : ∀ x, gcT (nb := nb) (q := q) (vT (nb := nb) (q := q) w) up (ix2 (blkRow R nb q i x) j)
      = ((t x * U - countR (blkCol R nb q W i x * r * U) * stepR (blkCol R nb q W i x * r * U) : ℝ) : EReal) := by
    intro x
    have e : gcT (nb := nb) (q := q) (vT (nb := nb) (q := q) w) up (ix2 (blkRow R nb q i x) j)
        = hatT (nb := nb) (q := q) (vT (nb := nb) (q := q) w) (ix2 (blkRow R nb q i x) j) * Ideal.ofBits .bf16 up
          - countT (nb := nb) (q := q) (vT (nb := nb) (q := q) w) up (ix2 (blkRow R nb q i x) j)
            * stepT (vT (nb := nb) (q := q) w) up (ix2 (blkRow R nb q i x) j) := by
      unfold gcT; pointwise
    rw [e, ht, hU, countT_real _ _ _ (hv x) up U hU, stepT_real _ _ _ (hv x) up U hU, EReal.coe_sub, EReal.coe_mul, EReal.coe_mul]
  have hd : ∀ x, vT (nb := nb) (q := q) w (ix2 (blkRow R nb q i x) j) - hatT (nb := nb) (q := q) (vT (nb := nb) (q := q) w) (ix2 (blkRow R nb q i x) j)
      = ((blkCol R nb q W i x * r - t x : ℝ) : EReal) := by
    intro x
    rw [hv, ht, EReal.coe_sub]
  have e : totT (nb := nb) (q := q) w up a1 asq acr (ix2 i8 j)
      = accT (nb := nb) (q := q) w up a1 asq acr (ix2 ⟨i8.val, by omega⟩ j) + accT (nb := nb) (q := q) w up a1 asq acr (ix2 ⟨8 + i8.val, by omega⟩ j)
        + accT (nb := nb) (q := q) w up a1 asq acr (ix2 ⟨16 + i8.val, by omega⟩ j) := by
    unfold totT; pointwise
  have ea : ∀ r : Fin 32, accT (nb := nb) (q := q) w up a1 asq acr (ix2 r j)
      = mmT (nb := nb) (q := q) a1 (fun p => (vT (nb := nb) (q := q) w p - hatT (nb := nb) (q := q) (vT (nb := nb) (q := q) w) p)
            * (vT (nb := nb) (q := q) w p - hatT (nb := nb) (q := q) (vT (nb := nb) (q := q) w) p)) (ix2 r j)
        + mmT (nb := nb) (q := q) asq (fun p => gcT (nb := nb) (q := q) (vT (nb := nb) (q := q) w) up p
            * gcT (nb := nb) (q := q) (vT (nb := nb) (q := q) w) up p) (ix2 r j)
        + mmT (nb := nb) (q := q) acr (fun p => gcT (nb := nb) (q := q) (vT (nb := nb) (q := q) w) up p
            * (vT (nb := nb) (q := q) w p - hatT (nb := nb) (q := q) (vT (nb := nb) (q := q) w) p)) (ix2 r j) := fun r => rfl
  rw [e, ea, ea, ea,
    mm_miss h1 _ ⟨8 + i8.val, by omega⟩ (by show nb ≤ 8 + i8.val; omega), mm_miss hsq _ ⟨8 + i8.val, by omega⟩ (by show nb ≤ 8 + i8.val; omega),
    mm_miss hcr _ ⟨8 + i8.val, by omega⟩ (by show nb ≤ 8 + i8.val; omega),
    mm_miss h1 _ ⟨16 + i8.val, by omega⟩ (by show nb ≤ 16 + i8.val; omega), mm_miss hsq _ ⟨16 + i8.val, by omega⟩ (by show nb ≤ 16 + i8.val; omega),
    mm_miss hcr _ ⟨16 + i8.val, by omega⟩ (by show nb ≤ 16 + i8.val; omega),
    mm_hit h1 _ ⟨i8.val, by omega⟩ i hi j (fun x => (blkCol R nb q W i x * r - t x) * (blkCol R nb q W i x * r - t x))
      (fun x => by show _ * _ = _; rw [hd, ← EReal.coe_mul]),
    mm_hit hsq _ ⟨i8.val, by omega⟩ i hi j (fun x => (t x * U - countR (blkCol R nb q W i x * r * U) * stepR (blkCol R nb q W i x * r * U))
        * (t x * U - countR (blkCol R nb q W i x * r * U) * stepR (blkCol R nb q W i x * r * U)))
      (fun x => by show _ * _ = _; rw [hc, ← EReal.coe_mul]),
    mm_hit hcr _ ⟨i8.val, by omega⟩ i hi j (fun x => (t x * U - countR (blkCol R nb q W i x * r * U) * stepR (blkCol R nb q W i x * r * U))
        * (blkCol R nb q W i x * r - t x))
      (fun x => by show _ * _ = _; rw [hc, hd, ← EReal.coe_mul])]
  simp only [← EReal.coe_add, ← EReal.coe_mul]
  refine congrArg Real.toEReal ?_
  have hfr : ∀ x, blkCol R nb q W i x * r * u = blkCol R nb q W i x := by
    intro x
    cases hs with
    | zero hz => rw [hz x]; ring
    | top n h1 h2 hl hg =>
      rw [mul_assoc, ← zpow_add₀ (by norm_num), show (2 - n + (n - 2) : ℤ) = 0 by ring, zpow_zero, mul_one]
  unfold errR
  simp only [add_zero, ← Finset.sum_add_distrib, Finset.sum_mul]
  refine Finset.sum_congr rfl fun x _ => ?_
  generalize (countR (blkCol R nb q W i x * r * U) : ℝ) * stepR (blkCol R nb q W i x * r * U) = c
  have hx := hfr x
  generalize blkCol R nb q W i x = f at hx ⊢
  have : (f - c * (u / U)) = (f * r - c / U) * u := by rw [sub_mul, hx]; ring
  rw [this]
  cases hf <;> ring
end

end Cert.Proof
end
-- ==== Proof.Lhs.lean ====
/- The left operand of the products over the reals: the mean squares of the input features, each in its block's row. -/
module

public import proofs.«01_k».proof.Proof.Tally

@[expose] public section

set_option maxRecDepth 16384

noncomputable section

namespace Cert.Proof

open Idealize.ShloMosaic

/-- Whether word `k`, divided by 32 with the quotient rounded down, is `r`. -/
def inRow (r k : BitVec 32) : BitVec 1 :=
  IntOp.cmpi .eq (Scalar.select (IntOp.andi (IntOp.cmpi .ne
      (IntOp.subi ((IntOp.cmpi .sgt k 0#32).setWidth 32) ((IntOp.cmpi .slt k 0#32).setWidth 32))
      (Scalar.subi (Scalar.extui (Scalar.cmpi .sgt 32#32 0#32)) (Scalar.extui (Scalar.cmpi .slt 32#32 0#32))))
    (IntOp.cmpi .ne (IntOp.remsi .vector k 32#32) 0#32)) (IntOp.subi (IntOp.divsi .vector k 32#32) 1#32) (IntOp.divsi .vector k 32#32)) r

theorem inRow_eq : ∀ (r : Fin 8) (k : Fin 256), inRow (BitVec.ofNat 32 r.val) (BitVec.ofNat 32 k.val) = if k.val / 32 = r.val then 1#1 else 0#1 := by
  decide +kernel

/-- The left operand's operations that move values between rows, read at an index. -/
class Rl (R : ℕ) [Lv R] : Prop where
  small : R ≤ 256
  sq (acc : FVec Ideal ⟨2, ![8, R]⟩ .f32) (x : FVec Ideal ⟨3, ![1, R, 128]⟩ .bf16) (r : Fin 8) (k : Fin R) : sqT acc x (ix2 r k)
    = acc (ix2 r k) + (∑ l : Fin 128, Ideal.ofBits .bf16 0x3F80#16 * (x (ix3 0 k l) * x (ix3 0 k l)))
      + ∑ l : Fin 128, Ideal.ofBits .bf16 0x3F80#16 * (x (ix3 0 k l) * x (ix3 0 k l) - x (ix3 0 k l) * x (ix3 0 k l))
  mask (r : Fin 8) (k : Fin R) : maskT R (ix2 r k) = inRow (BitVec.ofNat 32 r.val) (BitVec.ofNat 32 k.val)
  parts (h : FVec Ideal ⟨2, ![8, R]⟩ .f32) (r : Fin 32) (k : Fin R) : partsT h (ix2 r k)
    = if h1 : r.val < 8 then h (ix2 ⟨r.val, h1⟩ k) else if h2 : r.val - 8 < 8 then h (ix2 ⟨r.val - 8, h2⟩ k) - h (ix2 ⟨r.val - 8, h2⟩ k)
      else if h3 : r.val - 8 - 8 < 8 then h (ix2 ⟨r.val - 8 - 8, h3⟩ k) - h (ix2 ⟨r.val - 8 - 8, h3⟩ k)
        - (h (ix2 ⟨r.val - 8 - 8, h3⟩ k) - h (ix2 ⟨r.val - 8 - 8, h3⟩ k)) else 0
  lhs (sc : BitVec 32) (xa xb : FVec Ideal ⟨3, ![1, R, 128]⟩ .bf16) (r : Fin 32) (k : Fin R) : lhsT sc xa xb (ix4 0 0 r k)
    = partsT (F := Ideal) (select (maskT R) (meanT xa xb) (broadcast ⟨2, ![8, R]⟩ (Scalar.ofBits .f32 0x00000000#32))) (ix2 r k) * Ideal.ofBits .f32 sc

instance : Rl 256 := by
  refine ⟨by decide, ?_, ?_, ?_, ?_⟩ <;> intros
  · pointwise [sqT, hdot]
  · pointwise [maskT, inRow]
  · pointwise [partsT]
  · pointwise [lhsT]

instance : Rl 64 := by
  refine ⟨by decide, ?_, ?_, ?_, ?_⟩ <;> intros
  · pointwise [sqT, hdot]
  · pointwise [maskT, inRow]
  · pointwise [partsT]
  · pointwise [lhsT]

theorem ofBits_mean : Ideal.ofBits .f32 0x3B800000#32 = ((1 / 256 : ℝ) : EReal) := by
  simp [Ideal.ofBits, Ideal.ieee, -EReal.coe_mul]; norm_num

section
variable {R : ℕ} [Lv R] [Rl R]

/-- The mean square of feature `k` over the two batches. -/
def meanR (Xa Xb : Fin R → Fin 128 → ℝ) (k : Fin R) : ℝ := ((∑ l, Xa k l * Xa k l) + ∑ l, Xb k l * Xb k l) * (1 / 256)

theorem sq_real (acc : FVec Ideal ⟨2, ![8, R]⟩ .f32) (x : FVec Ideal ⟨3, ![1, R, 128]⟩ .bf16) (X : Fin R → Fin 128 → ℝ)
    (hx : ∀ k l, x (ix3 0 k l) = ((X k l : ℝ) : EReal)) (r : Fin 8) (k : Fin R) (A : ℝ) (ha : acc (ix2 r k) = (A : EReal)) :
    sqT acc x (ix2 r k) = ((A + ∑ l, X k l * X k l : ℝ) : EReal) := by
  rw [Rl.sq, ha, Ideal.ofBits_one_bf16]
  simp only [hx, one_mul, ← EReal.coe_mul, ← EReal.coe_sub, ← coe_sum, ← EReal.coe_add, sub_self, Finset.sum_const_zero, add_zero]

variable (xa xb : FVec Ideal ⟨3, ![1, R, 128]⟩ .bf16) (Xa Xb : Fin R → Fin 128 → ℝ)
variable (ha : ∀ k l, xa (ix3 0 k l) = ((Xa k l : ℝ) : EReal)) (hb : ∀ k l, xb (ix3 0 k l) = ((Xb k l : ℝ) : EReal))
include ha hb

theorem mean_real (r : Fin 8) (k : Fin R) : meanT xa xb (ix2 r k) = ((meanR Xa Xb k : ℝ) : EReal) := by
  have e : meanT xa xb (ix2 r k) = sqT (sqT (broadcast ⟨2, ![8, R]⟩ (Scalar.ofBits (F := Ideal) .f32 0x00000000#32)) xa) xb (ix2 r k)
      * Ideal.ofBits .f32 0x3B800000#32 := rfl
  have z : broadcast ⟨2, ![8, R]⟩ (Scalar.ofBits (F := Ideal) .f32 0x00000000#32) (ix2 r k) = ((0 : ℝ) : EReal) := Ideal.ofBits_zero_f32
  rw [e, sq_real _ xb Xb hb r k _ (sq_real _ xa Xa ha r k 0 z), ofBits_mean, ← EReal.coe_mul, zero_add]
  rfl

/-- The left operand at one scale: the mean squares by block, and zero. -/
theorem lhs_real {sc : BitVec 32} {s : ℝ} (hs : Ideal.ofBits .f32 sc = (s : EReal)) : Lhs (meanR Xa Xb) s (lhsT sc xa xb) := by
  intro r k
  have hk := lt_of_lt_of_le k.isLt (Rl.small (R := R))
  have hv : ∀ r8 : Fin 8, select (maskT R) (meanT xa xb) (broadcast ⟨2, ![8, R]⟩ (Scalar.ofBits (F := Ideal) .f32 0x00000000#32)) (ix2 r8 k)
      = ((if k.val / 32 = r8.val then meanR Xa Xb k else 0 : ℝ) : EReal) := by
    intro r8
    show Scalar.select (maskT R (ix2 r8 k)) (meanT xa xb (ix2 r8 k)) (Ideal.ofBits .f32 0x00000000#32) = _
    rw [Rl.mask, inRow_eq r8 ⟨k.val, hk⟩, mean_real xa xb Xa Xb ha hb, Ideal.ofBits_zero_f32]
    show Scalar.select (if k.val / 32 = r8.val then 1#1 else 0#1) _ _ = _
    split_ifs
    · rfl
    · rfl
  have hc : ∀ t : ℝ, (t : EReal) - (t : EReal) = ((0 : ℝ) : EReal) := fun t => by rw [← EReal.coe_sub, sub_self]
  have hp : partsT (F := Ideal) (select (maskT R) (meanT xa xb) (broadcast ⟨2, ![8, R]⟩ (Scalar.ofBits .f32 0x00000000#32))) (ix2 r k)
      = ((if k.val / 32 = r.val then meanR Xa Xb k else 0 : ℝ) : EReal) := by
    rw [Rl.parts]
    simp only [hv, hc]
    split_ifs <;> first | rfl | omega
  rw [Rl.lhs, hp, hs, ← EReal.coe_mul]
  refine congrArg Real.toEReal ?_
  split_ifs
  · rfl
  · rw [zero_mul]
end

end Cert.Proof
end
-- ==== Proof.Words.lean ====
/- The kernel's codes on a tile over the reals: a byte holds the codes of two rows. -/
module

public import proofs.«01_k».proof.Proof.Tally
public import Idealize.ShloMosaic.Lib.BitcastPair

@[expose] public section

set_option maxRecDepth 16384

noncomputable section

namespace Cert.Proof

open Idealize.ShloMosaic

theorem fptosi_int (N : ℤ) (h1 : -100 ≤ N) (h2 : N ≤ 100) : Ideal.fptosi 32 (((N : ℤ) : ℝ) : EReal) = BitVec.ofInt 32 N := by
  show BitVec.ofInt 32 (max _ (min _ (if (0 : ℝ) ≤ (N : ℝ) then ⌊(N : ℝ)⌋ else ⌈(N : ℝ)⌉))) = _
  rw [Int.floor_intCast, Int.ceil_intCast, ite_self]
  congr 1
  norm_num
  omega

/-- The code of a count of steps `n` at the step `s`. -/
def nibB (n : BitVec 32) (s : EReal) : BitVec 32 :=
  Scalar.select (IntOp.cmpi .slt n 0#32)
    (IntOp.addi (IntOp.addi (IntOp.absi n) (if s < Ideal.ofBits .bf16 0x3F80#16 then 0#32 else if s < Ideal.ofBits .bf16 0x4000#16 then 2#32 else 4#32)) 8#32)
    (IntOp.addi (IntOp.absi n) (if s < Ideal.ofBits .bf16 0x3F80#16 then 0#32 else if s < Ideal.ofBits .bf16 0x4000#16 then 2#32 else 4#32))

theorem countR_bounds (t : ℝ) : -4 ≤ countR t ∧ countR t ≤ 4 := by
  rcases le_total 0 t with h | h
  · rcases ranges h with ⟨-, a, b, -⟩ | ⟨-, -, a, b, -⟩ | ⟨-, a, b, -⟩ <;> omega
  · have := ranges (t := -t) (by linarith)
    rw [countR_neg] at this
    rcases this with ⟨-, a, b, -⟩ | ⟨-, -, a, b, -⟩ | ⟨-, a, b, -⟩ <;> omega

theorem nibB_real (t : ℝ) : nibB (BitVec.ofInt 32 (countR t)) ((stepR t : ℝ) : EReal) = BitVec.ofNat 32 (nibR t) := by
  unfold nibB nibR
  simp only [ofBits_two, Ideal.ofBits_one_bf16, ← EReal.coe_one, EReal.coe_lt_coe_iff]
  obtain ⟨a, b⟩ := countR_bounds t
  have e : (if stepR t < 1 then 0#32 else if stepR t < 2 then 2#32 else 4#32) = (if |t| < 2 then 0#32 else if |t| < 4 then 2#32 else 4#32) := by
    unfold stepR
    by_cases c : |t| < 2
    · simp [c]; norm_num
    · by_cases d : |t| < 4 <;> simp [c, d]
  rw [e]
  generalize countR t = N at a b
  by_cases c : |t| < 2
  · simp only [c, if_true]; interval_cases N <;> decide
  · by_cases d : |t| < 4 <;> simp only [c, d, if_true, if_false] <;> interval_cases N <;> decide

section
variable {R nb q : ℕ} [Ev R nb q] [Rd R nb q]

theorem nibT_real (v : FVec Ideal ⟨2, ![R, 128]⟩ .bf16) (i : (⟨2, ![R, 128]⟩ : Shape).Idx) (x : ℝ) (hv : v i = (x : EReal)) :
    nibT (nb := nb) (q := q) v i = BitVec.ofNat 32 (nibR x) := by
  have e : nibT (nb := nb) (q := q) v i = nibB (Ideal.fptosi 32 (countT (nb := nb) (q := q) v 0x3F80#16 i)) (stepT v 0x3F80#16 i) := by
    unfold nibT; pointwise [nibB]; rfl
  have h1 : Ideal.ofBits .bf16 0x3F80#16 = ((1 : ℝ) : EReal) := Factor.one.bits
  obtain ⟨a, b⟩ := countR_bounds (x * 1)
  rw [e, countT_real v i x hv _ 1 h1, stepT_real v i x hv _ 1 h1, fptosi_int _ (by omega) (by omega), nibB_real, mul_one]
end

/-- A wrapped sum of numerals is the numeral of the sum. -/
theorem fold_addi {ι : Type} (S : Finset ι) (c : ι → ℕ) : S.fold IntOp.addi 0#32 (fun x => BitVec.ofNat 32 (c x)) = BitVec.ofNat 32 (∑ x ∈ S, c x) := by
  classical
  induction S using Finset.induction_on with
  | empty => simp
  | insert a S ha ih => rw [Finset.fold_insert ha, Finset.sum_insert ha, ih, BitVec.ofNat_add]; rfl

/-- Hexadecimal digits, the lowest first. -/
def pk : List ℕ → ℕ
  | [] => 0
  | x :: l => x + 16 * pk l

theorem land_digit (x y a b : ℕ) (hx : x < 16) (hy : y < 16) : (x + 16 * a) &&& (y + 16 * b) = (x &&& y) + 16 * (a &&& b) := by
  have h1 := Nat.and_div_two_pow (a := x + 16 * a) (b := y + 16 * b) (n := 4)
  have h2 := Nat.and_mod_two_pow (a := x + 16 * a) (b := y + 16 * b) (n := 4)
  norm_num at h1 h2
  rw [show (x + 16 * a) / 16 = a by omega, show (y + 16 * b) / 16 = b by omega] at h1
  rw [Nat.mod_eq_of_lt hx, Nat.mod_eq_of_lt hy] at h2
  omega

theorem lor_digit (x y a b : ℕ) (hx : x < 16) (hy : y < 16) : (x + 16 * a) ||| (y + 16 * b) = (x ||| y) + 16 * (a ||| b) := by
  have h1 := Nat.or_div_two_pow (a := x + 16 * a) (b := y + 16 * b) (n := 4)
  have h2 := Nat.or_mod_two_pow (a := x + 16 * a) (b := y + 16 * b) (n := 4)
  norm_num at h1 h2
  rw [show (x + 16 * a) / 16 = a by omega, show (y + 16 * b) / 16 = b by omega] at h1
  rw [Nat.mod_eq_of_lt hx, Nat.mod_eq_of_lt hy] at h2
  omega

/-- Clearing the digits equal to eight leaves digits that never are. -/
theorem clr_digits (l : List ℕ) (h : ∀ x ∈ l, x < 16 ∧ x ≠ 8) :
    pk l &&& (((pk l &&& pk (l.map fun _ => 7)) + pk (l.map fun _ => 7)) ||| pk (l.map fun _ => 7)) = pk l := by
  induction l with
  | nil => rfl
  | cons x l ih =>
    have ih := ih fun y hy => h y (List.mem_cons_of_mem x hy)
    obtain ⟨hx, h8⟩ := h x List.mem_cons_self
    simp only [List.map_cons, pk]
    have h7 : (x &&& 7) + 7 < 16 ∧ ((x &&& 7) + 7) ||| 7 < 16 ∧ x &&& (((x &&& 7) + 7) ||| 7) = x := by
      clear ih h; interval_cases x <;> first | decide | exact absurd rfl h8
    rw [land_digit x 7 _ _ hx (by norm_num),
      show (x &&& 7) + 16 * (pk l &&& pk (l.map fun _ => 7)) + (7 + 16 * pk (l.map fun _ => 7))
        = ((x &&& 7) + 7) + 16 * ((pk l &&& pk (l.map fun _ => 7)) + pk (l.map fun _ => 7)) by ring,
      lor_digit _ 7 _ _ h7.1 (by norm_num), land_digit x _ _ _ hx h7.2.1, ih, h7.2.2]

theorem pk_mod (x y : ℕ) (l : List ℕ) (hx : x < 16) (hy : y < 16) : pk (x :: y :: l) % 256 = x + 16 * y := by
  simp only [pk]; omega

theorem pk_div (x y : ℕ) (l : List ℕ) (hx : x < 16) (hy : y < 16) : pk (x :: y :: l) / 256 = pk l := by
  simp only [pk]; omega

theorem pk_lt (l : List ℕ) (h : ∀ x ∈ l, x < 16) : pk l < 16 ^ l.length := by
  induction l with
  | nil => simp [pk]
  | cons x l ih =>
    have := ih fun y hy => h y (List.mem_cons_of_mem x hy)
    have := h x List.mem_cons_self
    simp only [pk, List.length_cons, pow_succ]
    omega

theorem clr_ofNat (P M : ℕ) (hP : P < 2 ^ 32) (hM : M + M < 2 ^ 32) (hd : P &&& (((P &&& M) + M) ||| M) = P) :
    IntOp.andi (BitVec.ofNat 32 P) (IntOp.ori (IntOp.addi (IntOp.andi (BitVec.ofNat 32 P) (BitVec.ofNat 32 M)) (BitVec.ofNat 32 M)) (BitVec.ofNat 32 M))
      = BitVec.ofNat 32 P := by
  have h1 : (BitVec.ofNat 32 P).toNat = P := by rw [BitVec.toNat_ofNat]; exact Nat.mod_eq_of_lt hP
  have h2 : (BitVec.ofNat 32 M).toNat = M := by rw [BitVec.toNat_ofNat]; exact Nat.mod_eq_of_lt (by omega)
  have hle : (P &&& M) + M < 2 ^ 32 := lt_of_le_of_lt (Nat.add_le_add_right Nat.and_le_right _) hM
  apply BitVec.eq_of_toNat_eq
  simp only [IntOp.andi, IntOp.ori, IntOp.addi, BitVec.toNat_and, BitVec.toNat_or, BitVec.toNat_add, h1, h2]
  rw [Nat.mod_eq_of_lt hle, hd]

theorem sum_pk (X : Fin 8 → ℕ) : ∑ x : Fin 8, X x * 16 ^ x.val = pk [X 0, X 1, X 2, X 3, X 4, X 5, X 6, X 7] := by
  rw [Fin.sum_univ_eight]; simp [pk]; ring

theorem pk_seven : pk [7, 7, 7, 7, 7, 7, 7, 7] = 2004318071 := by norm_num [pk]

theorem clr_word (X : Fin 8 → ℕ) (h : ∀ x, X x < 16 ∧ X x ≠ 8) :
    clr (BitVec.ofNat 32 (∑ x : Fin 8, X x * 16 ^ x.val)) = BitVec.ofNat 32 (pk [X 0, X 1, X 2, X 3, X 4, X 5, X 6, X 7]) := by
  have hx : ∀ x ∈ [X 0, X 1, X 2, X 3, X 4, X 5, X 6, X 7], x < 16 ∧ x ≠ 8 := by
    intro x hx
    simp only [List.mem_cons, List.not_mem_nil, or_false] at hx
    rcases hx with rfl | rfl | rfl | rfl | rfl | rfl | rfl | rfl <;> exact h _
  have hd := clr_digits _ hx
  have hlt := pk_lt _ fun x m => (hx x m).1
  rw [List.map_cons, List.map_cons, List.map_cons, List.map_cons, List.map_cons, List.map_cons, List.map_cons, List.map_cons, List.map_nil] at hd
  have hc := clr_ofNat _ _ (lt_of_lt_of_eq hlt (by norm_num)) (by rw [pk_seven]; norm_num) hd
  rw [pk_seven] at hc
  rw [sum_pk]
  exact hc

/-- Words read as bytes: row `4 i + b` is byte `b` of row `i`. -/
theorem bitcast_32_8 {a b : ℕ} (x : IVec ⟨2, ![a, 128]⟩ 32) (h : (⟨2, ![a, 128]⟩ : Shape).Bitcasts 32 ⟨2, ![b, 128]⟩ 8) (r : Fin b)
    (j : Fin 128) (p : Fin a) (hp : p.val = r.val / 4) :
    bitcast ⟨2, ![b, 128]⟩ 8 x h (ix2 r j) = (x (ix2 p j)).extractLsb' (8 * (r.val % 4)) 8 := by
  apply BitVec.eq_of_getLsbD_eq
  intro i hi
  rw [bitcast_getLsbD x h _ i hi (by decide), BitVec.getLsbD_extractLsb']
  have hrow : (⟨2, ![b, 128]⟩ : Shape).row (ix2 r j) = r.val := rfl
  have e2 : ((⟨2, ![b, 128]⟩ : Shape).row (ix2 r j) * 8 + i) % 32 = 8 * (r.val % 4) + i := by rw [hrow]; omega
  rw [e2]
  simp only [hi, decide_true, Bool.true_and]
  congr 2
  funext c
  match c with
  | ⟨0, _⟩ => exact Fin.ext ((h.srcIdx_row _ _ _ ⟨0, Nat.zero_lt_two⟩ rfl).trans (by rw [hrow]; show _ = p.val; omega))
  | ⟨1, _⟩ => exact Fin.ext (h.srcIdx_other _ _ _ ⟨1, Nat.one_lt_two⟩ (by show ¬ 1 + 2 = 2; omega))

theorem byte_pk (X : Fin 8 → ℕ) (h : ∀ x, X x < 16) (b : ℕ) (hb : b < 4) :
    (BitVec.ofNat 32 (pk [X 0, X 1, X 2, X 3, X 4, X 5, X 6, X 7])).extractLsb' (8 * b) 8
      = BitVec.ofNat 8 (X ⟨2 * b, by omega⟩ + 16 * X ⟨2 * b + 1, by omega⟩) := by
  have hlt : pk [X 0, X 1, X 2, X 3, X 4, X 5, X 6, X 7] < 2 ^ 32 := lt_of_lt_of_eq (pk_lt _ (by
    intro x hx
    simp only [List.mem_cons, List.not_mem_nil, or_false] at hx
    rcases hx with rfl | rfl | rfl | rfl | rfl | rfl | rfl | rfl <;> exact h _)) (by norm_num)
  have d0 := pk_div _ _ [X 2, X 3, X 4, X 5, X 6, X 7] (h 0) (h 1)
  have d1 := pk_div _ _ [X 4, X 5, X 6, X 7] (h 2) (h 3)
  have d2 := pk_div _ _ [X 6, X 7] (h 4) (h 5)
  have key : pk [X 0, X 1, X 2, X 3, X 4, X 5, X 6, X 7] / 2 ^ (8 * b) % 256 = X ⟨2 * b, by omega⟩ + 16 * X ⟨2 * b + 1, by omega⟩ := by
    match b, hb with
    | 0, _ => rw [show 2 ^ (8 * 0) = 1 by norm_num, Nat.div_one]; exact pk_mod _ _ _ (h 0) (h 1)
    | 1, _ => rw [show 2 ^ (8 * 1) = 256 by norm_num, d0]; exact pk_mod _ _ _ (h 2) (h 3)
    | 2, _ => rw [show 2 ^ (8 * 2) = 256 * 256 by norm_num, ← Nat.div_div_eq_div_mul, d0, d1]; exact pk_mod _ _ _ (h 4) (h 5)
    | 3, _ =>
      rw [show 2 ^ (8 * 3) = 256 * 256 * 256 by norm_num, ← Nat.div_div_eq_div_mul, ← Nat.div_div_eq_div_mul, d0, d1, d2]
      exact pk_mod _ _ _ (h 6) (h 7)
  apply BitVec.eq_of_toNat_eq
  rw [BitVec.extractLsb'_toNat, BitVec.toNat_ofNat, BitVec.toNat_ofNat, Nat.shiftRight_eq_div_pow, Nat.mod_eq_of_lt hlt]
  have := h ⟨2 * b, by omega⟩
  have := h ⟨2 * b + 1, by omega⟩
  rw [← key, show 2 ^ 8 = 256 by norm_num, Nat.mod_mod]

section
variable {R nb q : ℕ} [Ev R nb q] [Rd R nb q]

/-- A byte of the codes: those of rows `2 r` and `2 r + 1`. -/
theorem byte_real (hR : R ≤ 256) (w : FVec Ideal ⟨2, ![R, 128]⟩ .bf16) (j : Fin 128) (V : Fin R → ℝ)
    (hv : ∀ k, vT (nb := nb) (q := q) w (ix2 k j) = ((V k : ℝ) : EReal)) {b : ℕ}
    (h : (⟨2, ![q, 128]⟩ : Shape).Bitcasts 32 ⟨2, ![b, 128]⟩ 8) (r : Fin b) (k0 k1 : Fin R) (h0 : k0.val = 2 * r.val) (h1 : k1.val = 2 * r.val + 1) :
    bitcast ⟨2, ![b, 128]⟩ 8 (wordT (nb := nb) (q := q) w) h (ix2 r j) = BitVec.ofNat 8 (nibR (V k0) + 16 * nibR (V k1)) := by
  have hq : 8 * q = R := Rd.words nb
  let p : Fin q := ⟨r.val / 4, by omega⟩
  let X : Fin 8 → ℕ := fun x => nibR (V ⟨p.val * 8 + x.val, by omega⟩)
  have hX : ∀ x, X x < 16 ∧ X x ≠ 8 := fun x => nibR_lt _
  have hwd : wordT (nb := nb) (q := q) w (ix2 p j) = BitVec.ofNat 32 (pk [X 0, X 1, X 2, X 3, X 4, X 5, X 6, X 7]) := by
    rw [Rd.word, ← clr_word X hX, ← fold_addi]
    congr 1
    refine Finset.fold_congr fun x _ => ?_
    rw [nibT_real _ _ _ (hv _)]
    have hs : IntOp.shli .vector (IntOp.andi (BitVec.ofNat 32 (p.val * 8 + x.val)) 7#32) 2#32 = BitVec.ofNat 32 (4 * x.val) := by
      have ha : IntOp.andi (BitVec.ofNat 32 (p.val * 8 + x.val)) 7#32 = BitVec.ofNat 32 x.val := by
        apply BitVec.eq_of_toNat_eq
        have : (p.val * 8 + x.val) &&& 7 = x.val := by
          rw [show 7 = 2 ^ 3 - 1 by norm_num, Nat.and_two_pow_sub_one_eq_mod]; omega
        simp only [IntOp.andi, BitVec.toNat_and, BitVec.toNat_ofNat]
        norm_num
        rw [Nat.mod_eq_of_lt (by omega), this]; omega
      rw [ha]; clear ha; revert x; decide
    rw [hs]
    apply BitVec.eq_of_toNat_eq
    have hx4 : (BitVec.ofNat 32 (4 * x.val)).toNat = 4 * x.val := by rw [BitVec.toNat_ofNat]; omega
    simp only [IntOp.shli, hx4]
    rw [if_pos (by omega), BitVec.shiftLeft_eq', hx4, BitVec.toNat_shiftLeft, BitVec.toNat_ofNat, BitVec.toNat_ofNat, Nat.shiftLeft_eq, pow_mul]
    have := (hX x).1
    show X x % _ * _ % _ = X x * 16 ^ x.val % _
    rw [Nat.mod_eq_of_lt (by omega : X x < 2 ^ 32), show (2 : ℕ) ^ 4 = 16 by norm_num]
  rw [bitcast_32_8 _ h r j p rfl, hwd, byte_pk X (fun x => (hX x).1) _ (by omega)]
  congr 2
  · show nibR (V _) = _
    congr 2
    apply Fin.ext; show r.val / 4 * 8 + 2 * (r.val % 4) = k0.val; omega
  · show 16 * nibR (V _) = _
    congr 3
    apply Fin.ext; show r.val / 4 * 8 + (2 * (r.val % 4) + 1) = k1.val; omega
end

end Cert.Proof
end
-- ==== Proof.Spec.lean ====
/- What each result of one grid point is asked to be, tile by tile, for any float instance: the statements that the
   pieces of the body's stores are closed with. -/
module

public import proofs.«01_k».proof.Proof.Gen.KernelIdeal.Frame
public import proofs.«01_k».proof.Proof.Tile

@[expose] public section

set_option maxRecDepth 16384
set_option maxHeartbeats 8000000

noncomputable section

namespace Cert.Proof

open Idealize.ShloMosaic Idealize.SL.Sem Cert.KernelIdeal Cert.KernelIdeal.Gen

variable {F : FTy → Type} [FloatOps F]

/-- The candidates: the row of the result, the factor, and the scales of the two products that depend on it. -/
inductive Cand : ℕ → BitVec 16 → ℕ → ℕ → Prop
  | half : Cand 0 0x4000#16 0 1
  | one : Cand 1 0x3F80#16 1 2
  | two : Cand 2 0x3F00#16 3 3

/-- Every tile of errors that holds `y` has the value `v` there. -/
structure ErrSpec (x1 : Vec F S2880x640 .bf16) (xs : Vec F S12x4x32x256 .bf16) (y : S3x90x640.Idx) (v : F .f32) : Prop where
  full : ∀ {cc up iq ic}, Cand cc up iq ic → ∀ {r c g : ℕ} (inb inb1 inbq inbc) (x : (⟨3, ![1, 8, 128]⟩ : Shape).Idx),
    (y 0).val = cc → r = 256 * g → 32 * (y 1).val = r + 32 * (x 1).val → (y 2).val = c + (x 2).val →
    err8 (View.ld x1 (Rect.unit (s := S2880x640) ![r, c] ![256, 128] inb)) up
      (View.ld xs (Rect.unit (s := S12x4x32x256) ![g, 1, 0, 0] ![1, 1, 32, 256] inb1))
      (View.ld xs (Rect.unit (s := S12x4x32x256) ![g, iq, 0, 0] ![1, 1, 32, 256] inbq))
      (View.ld xs (Rect.unit (s := S12x4x32x256) ![g, ic, 0, 0] ![1, 1, 32, 256] inbc)) x = v
  last : ∀ {cc up iq ic}, Cand cc up iq ic → ∀ {r c g : ℕ} (inb inb1 inbq inbc) (x : (⟨3, ![1, 2, 128]⟩ : Shape).Idx),
    (y 0).val = cc → r = 256 * g → 32 * (y 1).val = r + 32 * (x 1).val → (y 2).val = c + (x 2).val →
    err2 (View.ld x1 (Rect.unit (s := S2880x640) ![r, c] ![64, 128] inb)) up
      (View.ld xs (Rect.unit (s := S12x4x32x256) ![g, 1, 0, 0] ![1, 1, 32, 64] inb1))
      (View.ld xs (Rect.unit (s := S12x4x32x256) ![g, iq, 0, 0] ![1, 1, 32, 64] inbq))
      (View.ld xs (Rect.unit (s := S12x4x32x256) ![g, ic, 0, 0] ![1, 1, 32, 64] inbc)) x = v

theorem ErrSpec.use8 {x1 : Vec F S2880x640 .bf16} {xs : Vec F S12x4x32x256 .bf16} {y : S3x90x640.Idx} {v : F .f32} (h : ErrSpec x1 xs y v)
    {cc up iq ic} (hc : Cand cc up iq ic) {r c g : ℕ} {inb inb1 inbq inbc} (w : FVec F ⟨2, ![256, 128]⟩ .bf16)
    (A B C : FVec F ⟨4, ![1, 1, 32, 256]⟩ .bf16)
    (hw : View.ld x1 (Rect.unit (s := S2880x640) ![r, c] ![256, 128] inb) = w)
    (hA : View.ld xs (Rect.unit (s := S12x4x32x256) ![g, 1, 0, 0] ![1, 1, 32, 256] inb1) = A)
    (hB : View.ld xs (Rect.unit (s := S12x4x32x256) ![g, iq, 0, 0] ![1, 1, 32, 256] inbq) = B)
    (hC : View.ld xs (Rect.unit (s := S12x4x32x256) ![g, ic, 0, 0] ![1, 1, 32, 256] inbc) = C)
    (x : (⟨3, ![1, 8, 128]⟩ : Shape).Idx) (e0 : (y 0).val = cc) (eg : r = 256 * g) (e1 : 32 * (y 1).val = r + 32 * (x 1).val)
    (e2 : (y 2).val = c + (x 2).val) : err8 w up A B C x = v := by
  subst hw hA hB hC; exact h.full hc inb inb1 inbq inbc x e0 eg e1 e2

theorem ErrSpec.use2 {x1 : Vec F S2880x640 .bf16} {xs : Vec F S12x4x32x256 .bf16} {y : S3x90x640.Idx} {v : F .f32} (h : ErrSpec x1 xs y v)
    {cc up iq ic} (hc : Cand cc up iq ic) {r c g : ℕ} {inb inb1 inbq inbc} (w : FVec F ⟨2, ![64, 128]⟩ .bf16)
    (A B C : FVec F ⟨4, ![1, 1, 32, 64]⟩ .bf16)
    (hw : View.ld x1 (Rect.unit (s := S2880x640) ![r, c] ![64, 128] inb) = w)
    (hA : View.ld xs (Rect.unit (s := S12x4x32x256) ![g, 1, 0, 0] ![1, 1, 32, 64] inb1) = A)
    (hB : View.ld xs (Rect.unit (s := S12x4x32x256) ![g, iq, 0, 0] ![1, 1, 32, 64] inbq) = B)
    (hC : View.ld xs (Rect.unit (s := S12x4x32x256) ![g, ic, 0, 0] ![1, 1, 32, 64] inbc) = C)
    (x : (⟨3, ![1, 2, 128]⟩ : Shape).Idx) (e0 : (y 0).val = cc) (eg : r = 256 * g) (e1 : 32 * (y 1).val = r + 32 * (x 1).val)
    (e2 : (y 2).val = c + (x 2).val) : err2 w up A B C x = v := by
  subst hw hA hB hC; exact h.last hc inb inb1 inbq inbc x e0 eg e1 e2

/-- A load of the scratch that reads the point's own stores `L` is a load of what they leave. -/
theorem ld_of_readCov {arg6 : Memref sig .tc .vmem S12x4x32x256 .bf16} {L : List (View.Piece (Elt F) S12x4x32x256 .bf16)}
    {xs : Vec F S12x4x32x256 .bf16} (hL : View.canon L = xs) {r : Rect S12x4x32x256} {A : r.shape.Idx → Elt F .bf16}
    (hA : arg6.view.readCov L r.toLoadRect = A) : View.ld xs r = A := by
  rw [← hA, View.readCov_eq_canon', hL]

/-- Every tile of codes that holds `y` has the value `v` there. -/
structure CodeSpec (x1 : Vec F S2880x640 .bf16) (y : S1440x640.Idx) (v : BitVec 8) : Prop where
  full : ∀ {r c : ℕ} (inb) (x : (⟨2, ![128, 128]⟩ : Shape).Idx), r % 32 = 0 → 2 * (y 0).val = r + 2 * (x 0).val → (y 1).val = c + (x 1).val →
    code8 (F := F) (View.ld x1 (Rect.unit (s := S2880x640) ![r, c] ![256, 128] inb)) x = v
  last : ∀ {r c : ℕ} (inb) (x : (⟨2, ![32, 128]⟩ : Shape).Idx), r % 32 = 0 → 2 * (y 0).val = r + 2 * (x 0).val → (y 1).val = c + (x 1).val →
    code2 (F := F) (View.ld x1 (Rect.unit (s := S2880x640) ![r, c] ![64, 128] inb)) x = v

theorem CodeSpec.use8 {x1 : Vec F S2880x640 .bf16} {y : S1440x640.Idx} {v : BitVec 8} (h : CodeSpec x1 y v) {r c : ℕ} {inb}
    (w : FVec F ⟨2, ![256, 128]⟩ .bf16) (hw : View.ld x1 (Rect.unit (s := S2880x640) ![r, c] ![256, 128] inb) = w)
    (x : (⟨2, ![128, 128]⟩ : Shape).Idx) (er : r % 32 = 0) (e0 : 2 * (y 0).val = r + 2 * (x 0).val) (e1 : (y 1).val = c + (x 1).val) : code8 w x = v := by
  subst hw; exact h.full inb x er e0 e1

theorem CodeSpec.use2 {x1 : Vec F S2880x640 .bf16} {y : S1440x640.Idx} {v : BitVec 8} (h : CodeSpec x1 y v) {r c : ℕ} {inb}
    (w : FVec F ⟨2, ![64, 128]⟩ .bf16) (hw : View.ld x1 (Rect.unit (s := S2880x640) ![r, c] ![64, 128] inb) = w)
    (x : (⟨2, ![32, 128]⟩ : Shape).Idx) (er : r % 32 = 0) (e0 : 2 * (y 0).val = r + 2 * (x 0).val) (e1 : (y 1).val = c + (x 1).val) : code2 w x = v := by
  subst hw; exact h.last inb x er e0 e1

/-- Every group of scale bytes that holds `y` has the value `v` there. -/
structure ScaleSpec (x1 : Vec F S2880x640 .bf16) (y : S90x640.Idx) (v : BitVec 8) : Prop where
  full : ∀ {r c : ℕ} (inb) (x : (⟨2, ![8, 128]⟩ : Shape).Idx), 32 * (y 0).val = r + 32 * (x 0).val → (y 1).val = c + (x 1).val →
    (scaleT (nb := 8) (q := 32) (View.ld x1 (Rect.unit (s := S2880x640) ![r, c] ![256, 128] inb)) x).setWidth 8 = v
  last : ∀ {r c : ℕ} (inb) (x : (⟨2, ![2, 128]⟩ : Shape).Idx), 32 * (y 0).val = r + 32 * (x 0).val → (y 1).val = c + (x 1).val →
    (scaleT (nb := 2) (q := 8) (View.ld x1 (Rect.unit (s := S2880x640) ![r, c] ![64, 128] inb)) x).setWidth 8 = v

theorem ScaleSpec.use8 {x1 : Vec F S2880x640 .bf16} {y : S90x640.Idx} {v : BitVec 8} (h : ScaleSpec x1 y v) {r c : ℕ} {inb}
    {w : FVec F ⟨2, ![256, 128]⟩ .bf16} (hw : View.ld x1 (Rect.unit (s := S2880x640) ![r, c] ![256, 128] inb) = w)
    {X : (⟨2, ![90, 128]⟩ : Shape).Idx} (e0 : (y 0).val = (X 0).val) (e1 : (y 1).val = c + (X 1).val)
    (x : (⟨2, ![8, 128]⟩ : Shape).Idx) (f0 : 32 * (X 0).val = r + 32 * (x 0).val) (f1 : (x 1).val = (X 1).val) :
    (scaleT (nb := 8) (q := 32) w x).setWidth 8 = v := by
  subst hw; exact h.full inb x (by omega) (by omega)

theorem ScaleSpec.use2 {x1 : Vec F S2880x640 .bf16} {y : S90x640.Idx} {v : BitVec 8} (h : ScaleSpec x1 y v) {r c : ℕ} {inb}
    {w : FVec F ⟨2, ![64, 128]⟩ .bf16} (hw : View.ld x1 (Rect.unit (s := S2880x640) ![r, c] ![64, 128] inb) = w)
    {X : (⟨2, ![90, 128]⟩ : Shape).Idx} (e0 : (y 0).val = (X 0).val) (e1 : (y 1).val = c + (X 1).val)
    (x : (⟨2, ![2, 128]⟩ : Shape).Idx) (f0 : 32 * (X 0).val = r + 32 * (x 0).val) (f1 : (x 1).val = (X 1).val) :
    (scaleT (nb := 2) (q := 8) w x).setWidth 8 = v := by
  subst hw; exact h.last inb x (by omega) (by omega)

/-- A concatenation of groups of scale bytes at `X`, from the group that holds `X`. -/
theorem cat_piece {xs : List ((s : Shape) × (s.Idx → BitVec 32))} (hc : Shape.Concatenates (xs.map (·.1)) ⟨2, ![90, 128]⟩ 0)
    (X : (⟨2, ![90, 128]⟩ : Shape).Idx) (k n pre : ℕ) (s : IVec ⟨2, ![n, 128]⟩ 32) (hk : k < xs.length)
    (hxk : xs[k] = ⟨⟨2, ![n, 128]⟩, s⟩)
    (hpre : (((xs.take k).map (·.1)).map fun s => if h : s.rank = (⟨2, ![90, 128]⟩ : Shape).rank then s.size (Fin.cast h.symm 0) else 0).sum = pre)
    (h1 : pre ≤ (X 0).val) (h2 : (X 0).val < pre + n) (v : BitVec 8)
    (h : ∀ x : (⟨2, ![n, 128]⟩ : Shape).Idx, 32 * (X 0).val = 32 * pre + 32 * (x 0).val → (x 1).val = (X 1).val → (s x).setWidth 8 = v) :
    trunci 8 (concatenate ⟨2, ![90, 128]⟩ 0 xs hc) (by decide) X = v := by
  show (concatenate ⟨2, ![90, 128]⟩ 0 xs hc X).setWidth 8 = v
  have hx : (X 0).val - pre < n := by omega
  rw [concatenate_apply_piece 0 xs hc X k hk ⟨2, ![n, 128]⟩ s hxk rfl pre hpre (ix2 (⟨(X 0).val - pre, hx⟩ : Fin n) (X 1))]
  · exact h _ (show 32 * (X 0).val = 32 * pre + 32 * ((X 0).val - pre) by omega) rfl
  · intro b hb
    match b with
    | 0 => exact absurd rfl hb
    | 1 => rfl
  · show pre + ((X 0).val - pre) = (X 0).val
    omega

/-- A strip's scale bytes at `X` are `v` when each group's are, where it holds `X`. -/
theorem scaleCat_at (s0 s1 s2 s3 s4 s5 s6 s7 s8 s9 s10 : IVec ⟨2, ![8, 128]⟩ 32) (s' : IVec ⟨2, ![2, 128]⟩ 32)
    (X : (⟨2, ![90, 128]⟩ : Shape).Idx) (v : BitVec 8)
    (h0 : ∀ x : (⟨2, ![8, 128]⟩ : Shape).Idx, 32 * (X 0).val = 0 + 32 * (x 0).val → (x 1).val = (X 1).val → (s0 x).setWidth 8 = v)
    (h1 : ∀ x : (⟨2, ![8, 128]⟩ : Shape).Idx, 32 * (X 0).val = 256 + 32 * (x 0).val → (x 1).val = (X 1).val → (s1 x).setWidth 8 = v)
    (h2 : ∀ x : (⟨2, ![8, 128]⟩ : Shape).Idx, 32 * (X 0).val = 512 + 32 * (x 0).val → (x 1).val = (X 1).val → (s2 x).setWidth 8 = v)
    (h3 : ∀ x : (⟨2, ![8, 128]⟩ : Shape).Idx, 32 * (X 0).val = 768 + 32 * (x 0).val → (x 1).val = (X 1).val → (s3 x).setWidth 8 = v)
    (h4 : ∀ x : (⟨2, ![8, 128]⟩ : Shape).Idx, 32 * (X 0).val = 1024 + 32 * (x 0).val → (x 1).val = (X 1).val → (s4 x).setWidth 8 = v)
    (h5 : ∀ x : (⟨2, ![8, 128]⟩ : Shape).Idx, 32 * (X 0).val = 1280 + 32 * (x 0).val → (x 1).val = (X 1).val → (s5 x).setWidth 8 = v)
    (h6 : ∀ x : (⟨2, ![8, 128]⟩ : Shape).Idx, 32 * (X 0).val = 1536 + 32 * (x 0).val → (x 1).val = (X 1).val → (s6 x).setWidth 8 = v)
    (h7 : ∀ x : (⟨2, ![8, 128]⟩ : Shape).Idx, 32 * (X 0).val = 1792 + 32 * (x 0).val → (x 1).val = (X 1).val → (s7 x).setWidth 8 = v)
    (h8 : ∀ x : (⟨2, ![8, 128]⟩ : Shape).Idx, 32 * (X 0).val = 2048 + 32 * (x 0).val → (x 1).val = (X 1).val → (s8 x).setWidth 8 = v)
    (h9 : ∀ x : (⟨2, ![8, 128]⟩ : Shape).Idx, 32 * (X 0).val = 2304 + 32 * (x 0).val → (x 1).val = (X 1).val → (s9 x).setWidth 8 = v)
    (h10 : ∀ x : (⟨2, ![8, 128]⟩ : Shape).Idx, 32 * (X 0).val = 2560 + 32 * (x 0).val → (x 1).val = (X 1).val → (s10 x).setWidth 8 = v)
    (h' : ∀ x : (⟨2, ![2, 128]⟩ : Shape).Idx, 32 * (X 0).val = 2816 + 32 * (x 0).val → (x 1).val = (X 1).val → (s' x).setWidth 8 = v) :
    scaleCat s0 s1 s2 s3 s4 s5 s6 s7 s8 s9 s10 s' X = v := by
  have hX : (X 0).val < 90 := (X 0).isLt
  rcases Nat.lt_or_ge (X 0).val 8 with c0 | c0
  · exact cat_piece _ X 0 8 0 s0 (by show 0 < 12; decide) rfl rfl (by omega) c0 v h0
  rcases Nat.lt_or_ge (X 0).val 16 with c1 | c1
  · exact cat_piece _ X 1 8 8 s1 (by show 1 < 12; decide) rfl rfl (by omega) c1 v h1
  rcases Nat.lt_or_ge (X 0).val 24 with c2 | c2
  · exact cat_piece _ X 2 8 16 s2 (by show 2 < 12; decide) rfl rfl (by omega) c2 v h2
  rcases Nat.lt_or_ge (X 0).val 32 with c3 | c3
  · exact cat_piece _ X 3 8 24 s3 (by show 3 < 12; decide) rfl rfl (by omega) c3 v h3
  rcases Nat.lt_or_ge (X 0).val 40 with c4 | c4
  · exact cat_piece _ X 4 8 32 s4 (by show 4 < 12; decide) rfl rfl (by omega) c4 v h4
  rcases Nat.lt_or_ge (X 0).val 48 with c5 | c5
  · exact cat_piece _ X 5 8 40 s5 (by show 5 < 12; decide) rfl rfl (by omega) c5 v h5
  rcases Nat.lt_or_ge (X 0).val 56 with c6 | c6
  · exact cat_piece _ X 6 8 48 s6 (by show 6 < 12; decide) rfl rfl (by omega) c6 v h6
  rcases Nat.lt_or_ge (X 0).val 64 with c7 | c7
  · exact cat_piece _ X 7 8 56 s7 (by show 7 < 12; decide) rfl rfl (by omega) c7 v h7
  rcases Nat.lt_or_ge (X 0).val 72 with c8 | c8
  · exact cat_piece _ X 8 8 64 s8 (by show 8 < 12; decide) rfl rfl (by omega) c8 v h8
  rcases Nat.lt_or_ge (X 0).val 80 with c9 | c9
  · exact cat_piece _ X 9 8 72 s9 (by show 9 < 12; decide) rfl rfl (by omega) c9 v h9
  rcases Nat.lt_or_ge (X 0).val 88 with c10 | c10
  · exact cat_piece _ X 10 8 80 s10 (by show 10 < 12; decide) rfl rfl (by omega) c10 v h10
  exact cat_piece _ X 11 2 88 s' (by show 11 < 12; decide) rfl rfl (by omega) (by omega) v h'

end Cert.Proof
end
-- ==== Proof.Scratch.lean ====
/- What the first grid point leaves in the scratch, for any float instance: the left operand of the products, tile by tile. -/
module

public import proofs.«01_k».proof.Proof.Spec

@[expose] public section

set_option maxRecDepth 16384
set_option maxHeartbeats 16000000

noncomputable section

namespace Cert.Proof

open Idealize.ShloMosaic Idealize.SL.Sem Cert.KernelIdeal Cert.KernelIdeal.Gen

variable {F : FTy → Type} [FloatOps F]

/-- The scales of the left operand, by its place in the scratch. -/
inductive Sc : ℕ → BitVec 32 → Prop
  | quarter : Sc 0 0x3E800000#32
  | one : Sc 1 0x3F800000#32
  | two : Sc 2 0x40000000#32
  | four : Sc 3 0x40800000#32

/-- Every tile of the left operand that holds `z` has the value `v` there. -/
structure LhsSpec (x0 : Vec F S2x2880x128 .bf16) (z : S12x4x32x256.Idx) (v : F .bf16) : Prop where
  full : ∀ {i sc}, Sc i sc → ∀ {r g : ℕ} (inb0 inb1) (x : (⟨4, ![1, 1, 32, 256]⟩ : Shape).Idx),
    (z 0).val = g → r = 256 * g → (z 1).val = i → (z 2).val = (x 2).val → (z 3).val = (x 3).val → g < 11 →
    lhsT sc (View.ld x0 (Rect.unit (s := S2x2880x128) ![0, r, 0] ![1, 256, 128] inb0))
      (View.ld x0 (Rect.unit (s := S2x2880x128) ![1, r, 0] ![1, 256, 128] inb1)) x = v
  last : ∀ {i sc}, Sc i sc → ∀ (inb0 inb1) (x : (⟨4, ![1, 1, 32, 64]⟩ : Shape).Idx),
    (z 0).val = 11 → (z 1).val = i → (z 2).val = (x 2).val → (z 3).val = (x 3).val →
    lhsT sc (View.ld x0 (Rect.unit (s := S2x2880x128) ![0, 2816, 0] ![1, 64, 128] inb0))
      (View.ld x0 (Rect.unit (s := S2x2880x128) ![1, 2816, 0] ![1, 64, 128] inb1)) x = v
  tail : (z 0).val = 11 → 64 ≤ (z 3).val → Scalar.ofBits .bf16 0x0000#16 = v

theorem LhsSpec.use8 {x0 : Vec F S2x2880x128 .bf16} {z : S12x4x32x256.Idx} {v : F .bf16} (h : LhsSpec x0 z v) {i sc} (hs : Sc i sc)
    {r : ℕ} {inb0 inb1} (xa xb : FVec F ⟨3, ![1, 256, 128]⟩ .bf16)
    (ha : View.ld x0 (Rect.unit (s := S2x2880x128) ![0, r, 0] ![1, 256, 128] inb0) = xa)
    (hb : View.ld x0 (Rect.unit (s := S2x2880x128) ![1, r, 0] ![1, 256, 128] inb1) = xb)
    (x : (⟨4, ![1, 1, 32, 256]⟩ : Shape).Idx) (e0 : r = 256 * (z 0).val) (e1 : (z 1).val = i) (e2 : (z 2).val = (x 2).val)
    (e3 : (z 3).val = (x 3).val) (hg : (z 0).val < 11) : lhsT sc xa xb x = v := by
  subst ha hb; exact h.full hs inb0 inb1 x rfl e0 e1 e2 e3 hg

theorem LhsSpec.use2 {x0 : Vec F S2x2880x128 .bf16} {z : S12x4x32x256.Idx} {v : F .bf16} (h : LhsSpec x0 z v) {i sc} (hs : Sc i sc)
    {inb0 inb1} (xa xb : FVec F ⟨3, ![1, 64, 128]⟩ .bf16)
    (ha : View.ld x0 (Rect.unit (s := S2x2880x128) ![0, 2816, 0] ![1, 64, 128] inb0) = xa)
    (hb : View.ld x0 (Rect.unit (s := S2x2880x128) ![1, 2816, 0] ![1, 64, 128] inb1) = xb)
    (x : (⟨4, ![1, 1, 32, 64]⟩ : Shape).Idx) (e0 : (z 0).val = 11) (e1 : (z 1).val = i) (e2 : (z 2).val = (x 2).val)
    (e3 : (z 3).val = (x 3).val) : lhsT sc xa xb x = v := by
  subst ha hb; exact h.last hs inb0 inb1 x e0 e1 e2 e3

/-- The first point leaves `v` at `z` of the scratch when every tile of the left operand holding `z` does. -/
theorem lhs_A (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : cond0_0 i)
    (x0 : Vec F S2x2880x128 .bf16) (x1 : Vec F S2880x640 .bf16) (z : S12x4x32x256.Idx) (v : F .bf16) (H : LhsSpec x0 z v) :
    sout0_A_0 c i arg1 harg1 arg2 harg2 arg3 harg3 arg4 harg4 arg5 harg5 arg6 harg6 hc0 x0 x1 z = v := by
  frame_out
  canon_tiles x h using View.cover_of_tiledBy _ ![1, 1, 32, 64] (by sl_kernel_rfl) _
  all_goals first
    | exact H.tail (by omega) (by omega)
    | (generalize ha : View.ld x0 (Rect.unit (s := S2x2880x128) ![0, _, 0] _ _) = xa
       generalize hb : View.ld x0 (Rect.unit (s := S2x2880x128) ![1, _, 0] _ _) = xb
       first
       | exact H.use8 .quarter xa xb ha hb x (by omega) (by omega) (by omega) (by omega) (by omega)
       | exact H.use8 .one xa xb ha hb x (by omega) (by omega) (by omega) (by omega) (by omega)
       | exact H.use8 .two xa xb ha hb x (by omega) (by omega) (by omega) (by omega) (by omega)
       | exact H.use8 .four xa xb ha hb x (by omega) (by omega) (by omega) (by omega) (by omega)
       | exact H.use2 .quarter xa xb ha hb x (by omega) (by omega) (by omega) (by omega)
       | exact H.use2 .one xa xb ha hb x (by omega) (by omega) (by omega) (by omega)
       | exact H.use2 .two xa xb ha hb x (by omega) (by omega) (by omega) (by omega)
       | exact H.use2 .four xa xb ha hb x (by omega) (by omega) (by omega) (by omega))

end Cert.Proof
end
-- ==== Proof.Point.lean ====
/- One grid point over the reals: what the scratch holds, and with it the errors, codes and scale bytes of each block. -/
module

public import proofs.«01_k».proof.Proof.Lhs
public import proofs.«01_k».proof.Proof.Words
public import proofs.«01_k».proof.Proof.Scratch

@[expose] public section

set_option maxRecDepth 16384
set_option maxHeartbeats 2000000

noncomputable section

namespace Cert.Proof

open Idealize.ShloMosaic Idealize.SL.Sem Cert.KernelIdeal

theorem ofBits_quarter32 : Ideal.ofBits .f32 0x3E800000#32 = ((1 / 4 : ℝ) : EReal) := by
  simp [Ideal.ofBits, Ideal.ieee, -EReal.coe_mul]; norm_num
theorem ofBits_dbl32 : Ideal.ofBits .f32 0x40000000#32 = ((2 : ℝ) : EReal) := by
  simp [Ideal.ofBits, Ideal.ieee, -EReal.coe_mul]; norm_num
theorem ofBits_quad32 : Ideal.ofBits .f32 0x40800000#32 = ((4 : ℝ) : EReal) := by
  simp [Ideal.ofBits, Ideal.ieee, -EReal.coe_mul]; norm_num

theorem eq_ix3_lead {a b : ℕ} (x : (⟨3, ![1, a, b]⟩ : Shape).Idx) : x = ix3 (0 : Fin 1) (x 1) (x 2) :=
  (eq_ix3 x).trans (congrArg (fun k : Fin 1 => ix3 k (x 1) (x 2)) (Subsingleton.elim _ _))

theorem eq_ix4_lead {a b : ℕ} (x : (⟨4, ![1, 1, a, b]⟩ : Shape).Idx) : x = ix4 (0 : Fin 1) (0 : Fin 1) (x 2) (x 3) :=
  (eq_ix4 x).trans ((congrArg (fun k : Fin 1 => ix4 k (x 1) (x 2) (x 3)) (Subsingleton.elim _ _)).trans
    (congrArg (fun k : Fin 1 => ix4 (0 : Fin 1) k (x 2) (x 3)) (Subsingleton.elim _ _)))

theorem at_lead4 {α : Type} {a b : ℕ} (L : (⟨4, ![1, 1, a, b]⟩ : Shape).Idx → α) (x : (⟨4, ![1, 1, a, b]⟩ : Shape).Idx) (v : α)
    (h : L (ix4 (0 : Fin 1) (0 : Fin 1) (x 2) (x 3)) = v) : L x = v := (congrArg L (eq_ix4_lead x)).trans h

/-- The scales the scratch holds the weights of the squares at. -/
def sclR : ℕ → ℝ
  | 0 => 1 / 4
  | 1 => 1
  | 2 => 2
  | _ => 4

theorem Sc.bits {i : ℕ} {sc : BitVec 32} (h : Sc i sc) : Ideal.ofBits .f32 sc = ((sclR i : ℝ) : EReal) := by
  cases h
  · exact ofBits_quarter32
  · rw [Ideal.ofBits_one_f32]; rfl
  · exact ofBits_dbl32
  · exact ofBits_quad32

/-- A candidate's factor, by its row of the result. -/
def candR : ℕ → ℝ
  | 0 => 2
  | 1 => 1
  | _ => 1 / 2

theorem Cand.factor {cc : ℕ} {up : BitVec 16} {iq ic : ℕ} (h : Cand cc up iq ic) : Factor up (candR cc) (sclR iq) (sclR ic) := by
  cases h
  · exact .half
  · exact .one
  · exact .two

/-- The mean square of each feature. -/
def energy (X : Fin 2 → Fin 128 → Fin 2880 → ℝ) (k : Fin 2880) : ℝ := (∑ b, ∑ s, X b s k * X b s k) * (1 / 256)

/-- What the scratch holds: group `g`'s mean squares, at scale `i`, in row `r` of the block they belong to. -/
def scrR (H : Fin 2880 → ℝ) (g i r k : ℕ) : ℝ :=
  if h : k / 32 = r ∧ 256 * g + k < 2880 then H ⟨256 * g + k, h.2⟩ * sclR i else 0

theorem scrR_in (H : Fin 2880 → ℝ) (g i r k : ℕ) (h : 256 * g + k < 2880) :
    scrR H g i r k = if k / 32 = r then H ⟨256 * g + k, h⟩ * sclR i else 0 := by
  unfold scrR
  by_cases hk : k / 32 = r
  · rw [dif_pos ⟨hk, h⟩, if_pos hk]
  · rw [dif_neg (fun e => hk e.1), if_neg hk]

theorem scrR_out (H : Fin 2880 → ℝ) (g i r k : ℕ) (h : ¬256 * g + k < 2880) : scrR H g i r k = 0 := dif_neg fun e => h e.2

section
variable (x0 : Vec Ideal S2x2880x128 .bf16) (X : Fin 2 → Fin 128 → Fin 2880 → ℝ) (hx : ∀ b k s, x0 (ix3 b k s) = ((X b s k : ℝ) : EReal))
include hx

theorem lhs_tile {R : ℕ} [Lv R] [Rl R] {i : ℕ} {sc : BitVec 32} (hs : Sc i sc) {r g : ℕ} (hr : r = 256 * g) (inb0 inb1) (a : Fin 32) (k : Fin R) :
    lhsT (F := Ideal) (R := R) sc (View.ld x0 (Rect.unit (s := S2x2880x128) ![0, r, 0] ![1, R, 128] inb0))
      (View.ld x0 (Rect.unit (s := S2x2880x128) ![1, r, 0] ![1, R, 128] inb1)) (ix4 0 0 a k) = ((scrR (energy X) g i a k : ℝ) : EReal) := by
  have hR : r + R ≤ 2880 := inb0 1
  rw [lhs_real _ _ (fun k s => X 0 s ⟨r + k.val, by omega⟩) (fun k s => X 1 s ⟨r + k.val, by omega⟩) ?_ ?_ hs.bits a k]
  · rw [scrR_in _ _ _ _ _ (by omega)]
    subst hr
    unfold meanR energy
    simp only [Fin.sum_univ_two]
  · intro k l
    rw [← hx 0 ⟨r + k.val, by omega⟩ l]
    refine View.ld_unit_apply_of x0 _ _ inb0 _ _ fun a => ?_
    match a with
    | 0 => rfl
    | 1 => rfl
    | 2 => exact (Nat.zero_add _).symm
  · intro k l
    rw [← hx 1 ⟨r + k.val, by omega⟩ l]
    refine View.ld_unit_apply_of x0 _ _ inb1 _ _ fun a => ?_
    match a with
    | 0 => rfl
    | 1 => rfl
    | 2 => exact (Nat.zero_add _).symm

theorem lhs_spec (z : S12x4x32x256.Idx) : LhsSpec x0 z ((scrR (energy X) (z 0).val (z 1).val (z 2).val (z 3).val : ℝ) : EReal) where
  full hs _ _ inb0 inb1 x e0 er e1 e2 e3 _ := by
    have h := lhs_tile (R := 256) x0 X hx hs er inb0 inb1 (x 2) (x 3)
    rw [e0, e1, e2, e3]
    exact at_lead4 _ x _ h
  last hs inb0 inb1 x e0 e1 e2 e3 := by
    have h := lhs_tile (R := 64) (g := 11) (r := 256 * 11) x0 X hx hs rfl inb0 inb1 (x 2) (x 3)
    rw [e0, e1, e2, e3]
    exact at_lead4 _ x _ h
  tail e0 e3 := by
    rw [scrR_out _ _ _ _ _ (by omega)]
    exact Ideal.ofBits_zero_bf16.trans EReal.coe_zero.symm
end

section
variable (xb : Vec Ideal S2880x640 .bf16) (Wc : Fin 2880 → Fin 640 → ℝ) (hb : ∀ k j, xb (ix2 k j) = ((Wc k j : ℝ) : EReal))
variable {R nb q : ℕ} [Ev R nb q] [Rd R nb q] {r c : ℕ} (inb : ∀ a, ![r, c] a + ![R, 128] a ≤ S2880x640.size a)

/-- A block of 32 rows of one column. -/
def colBlk (Wc : Fin 2880 → Fin 640 → ℝ) (I : Fin 90) (J : Fin 640) (x : Fin 32) : ℝ := Wc ⟨I.val * 32 + x.val, by omega⟩ J

include hb in
theorem ld_tile (hR : r + R ≤ 2880) (k : Fin R) (j : Fin 128) (J : Fin 640) (hJ : J.val = c + j.val) :
    View.ld xb (Rect.unit (s := S2880x640) ![r, c] ![R, 128] inb) (ix2 k j) = ((Wc ⟨r + k.val, by omega⟩ J : ℝ) : EReal) := by
  rw [← hb]
  refine View.ld_unit_apply_of xb _ _ inb _ _ fun a => ?_
  match a with
  | 0 => rfl
  | 1 => exact hJ

theorem blk_tile (hR : r + R ≤ 2880) (i : Fin nb) (I : Fin 90) (J : Fin 640) (hI : 32 * I.val = r + 32 * i.val) :
    blkCol R nb q (fun k => Wc ⟨r + k.val, by omega⟩ J) i = colBlk Wc I J := by
  funext x
  exact congrArg (fun k => Wc k J) (Fin.ext (by show r + (i.val * 32 + x.val) = I.val * 32 + x.val; omega))

include hb in
theorem scale_tile (i : Fin nb) (j : Fin 128) (I : Fin 90) (J : Fin 640) (hI : 32 * I.val = r + 32 * i.val) (hJ : J.val = c + j.val)
    {u v : ℝ} {sc : ℕ} (hs : Scale (colBlk Wc I J) u v sc) :
    scaleT (F := Ideal) (R := R) (nb := nb) (q := q) (View.ld xb (Rect.unit (s := S2880x640) ![r, c] ![R, 128] inb)) (ix2 i j) = BitVec.ofNat 32 sc ∧
      unitT (F := Ideal) (R := R) (nb := nb) (q := q) (View.ld xb (Rect.unit (s := S2880x640) ![r, c] ![R, 128] inb)) (ix2 i j) = (u : EReal) := by
  have hR : r + R ≤ 2880 := inb 0
  rw [← blk_tile (q := q) Wc hR i I J hI] at hs
  have := scale_real (q := q) _ j _ (fun k => ld_tile xb Wc hb inb hR k j J hJ) i hs
  exact ⟨this.1, this.2.1⟩

/-- Every block's scales. -/
def Scales (Wc : Fin 2880 → Fin 640 → ℝ) (u v : Fin 90 → Fin 640 → ℝ) (sc : Fin 90 → Fin 640 → ℕ) : Prop :=
  ∀ I J, Scale (colBlk Wc I J) (u I J) (v I J) (sc I J)

variable {u v : Fin 90 → Fin 640 → ℝ} {sc : Fin 90 → Fin 640 → ℕ} (hS : Scales Wc u v sc)
include hb hS

theorem byte_tile (hq : R ≤ 256) (hr : r % 32 = 0) {b : ℕ} (h : (⟨2, ![q, 128]⟩ : Shape).Bitcasts 32 ⟨2, ![b, 128]⟩ 8) (hbR : 2 * b = R) (a : Fin b) (j : Fin 128)
    (p : Fin 1440) (J : Fin 640) (hp : 2 * p.val = r + 2 * a.val) (hJ : J.val = c + j.val) :
    bitcast ⟨2, ![b, 128]⟩ 8 (wordT (F := Ideal) (R := R) (nb := nb) (q := q) (View.ld xb (Rect.unit (s := S2880x640) ![r, c] ![R, 128] inb))) h (ix2 a j)
      = BitVec.ofNat 8 (nibR (colBlk Wc ⟨p.val / 16, by omega⟩ J ⟨p.val % 16 * 2, by omega⟩ * v ⟨p.val / 16, by omega⟩ J)
        + 16 * nibR (colBlk Wc ⟨p.val / 16, by omega⟩ J ⟨p.val % 16 * 2 + 1, by omega⟩ * v ⟨p.val / 16, by omega⟩ J)) := by
  have hR : r + R ≤ 2880 := inb 0
  have hn := Rd.rows R nb q
  have hv : ∀ k : Fin R, vT (F := Ideal) (R := R) (nb := nb) (q := q) (View.ld xb (Rect.unit (s := S2880x640) ![r, c] ![R, 128] inb)) (ix2 k j)
      = ((Wc ⟨r + k.val, by omega⟩ J * v ⟨(r + k.val) / 32, by omega⟩ J : ℝ) : EReal) := by
    intro k
    have hs := hS ⟨(r + k.val) / 32, by omega⟩ J
    rw [← blk_tile (q := q) Wc hR (⟨k.val / 32, by omega⟩ : Fin nb) _ J (by show 32 * ((r + k.val) / 32) = r + 32 * (k.val / 32); omega)] at hs
    exact vT_real (q := q) _ j _ (fun k => ld_tile xb Wc hb inb hR k j J hJ) _ hs k rfl
  rw [byte_real hq _ j _ hv h a ⟨2 * a.val, by omega⟩ ⟨2 * a.val + 1, by omega⟩ rfl rfl]
  have e0 : ∀ (k : ℕ) (hk : k < R) (x : Fin 32) (_ : r + k = p.val / 16 * 32 + x.val),
      Wc ⟨r + k, by omega⟩ J * v ⟨(r + k) / 32, by omega⟩ J = colBlk Wc ⟨p.val / 16, by omega⟩ J x * v ⟨p.val / 16, by omega⟩ J := by
    intro k hk x e
    have e1 : (⟨r + k, by omega⟩ : Fin 2880) = ⟨p.val / 16 * 32 + x.val, by omega⟩ := Fin.ext e
    have e2 : (⟨(r + k) / 32, by omega⟩ : Fin 90) = ⟨p.val / 16, by omega⟩ := Fin.ext (by show (r + k) / 32 = p.val / 16; omega)
    unfold colBlk
    rw [e1, e2]
  rw [e0 (2 * a.val) (by omega) ⟨p.val % 16 * 2, by omega⟩ (by show r + 2 * a.val = p.val / 16 * 32 + p.val % 16 * 2; omega),
    e0 (2 * a.val + 1) (by omega) ⟨p.val % 16 * 2 + 1, by omega⟩ (by show r + (2 * a.val + 1) = p.val / 16 * 32 + (p.val % 16 * 2 + 1); omega)]

omit hS in
theorem err_tile (xs : Vec Ideal S12x4x32x256 .bf16) (H : Fin 2880 → ℝ) (hxs : ∀ z, xs z = ((scrR H (z 0).val (z 1).val (z 2).val (z 3).val : ℝ) : EReal))
    (hn : nb ≤ 8) {cc : ℕ} {up : BitVec 16} {iq ic : ℕ} (hc : Cand cc up iq ic) {g : ℕ} (hr : r = 256 * g) (inb1 inbq inbc)
    (i8 : Fin 8) (i : Fin nb) (hi : i8.val = i.val) (j : Fin 128) (I : Fin 90) (J : Fin 640) (hI : 32 * I.val = r + 32 * i.val) (hJ : J.val = c + j.val)
    {u v : ℝ} {sc : ℕ} (hs : Scale (colBlk Wc I J) u v sc) :
    totT (F := Ideal) (R := R) (nb := nb) (q := q) (View.ld xb (Rect.unit (s := S2880x640) ![r, c] ![R, 128] inb)) up
      (View.ld xs (Rect.unit (s := S12x4x32x256) ![g, 1, 0, 0] ![1, 1, 32, R] inb1))
      (View.ld xs (Rect.unit (s := S12x4x32x256) ![g, iq, 0, 0] ![1, 1, 32, R] inbq))
      (View.ld xs (Rect.unit (s := S12x4x32x256) ![g, ic, 0, 0] ![1, 1, 32, R] inbc)) (ix2 i8 j)
      * unitT (F := Ideal) (R := R) (nb := nb) (q := q) (View.ld xb (Rect.unit (s := S2880x640) ![r, c] ![R, 128] inb)) (ix2 i j)
      * unitT (F := Ideal) (R := R) (nb := nb) (q := q) (View.ld xb (Rect.unit (s := S2880x640) ![r, c] ![R, 128] inb)) (ix2 i j)
      = ((errR (fun x => H ⟨I.val * 32 + x.val, by omega⟩) (colBlk Wc I J) u v (candR cc) : ℝ) : EReal) := by
  have hR : r + R ≤ 2880 := inb 0
  have hl : ∀ (e : ℕ) (inbe), Lhs (fun k : Fin R => H ⟨r + k.val, by omega⟩) (sclR e)
      (View.ld xs (Rect.unit (s := S12x4x32x256) ![g, e, 0, 0] ![1, 1, 32, R] inbe)) := by
    intro e inbe a k
    have hg : g + 1 ≤ 12 := inbe 0
    have he : e + 1 ≤ 4 := inbe 1
    have hk : 0 + R ≤ 256 := inbe 3
    have E := View.ld_unit_apply_of xs _ _ inbe (ix4 0 0 a k) (ix4 (⟨g, by omega⟩ : Fin 12) (⟨e, by omega⟩ : Fin 4) a (⟨k.val, by omega⟩ : Fin 256)) (fun a => by
      match a with
      | 0 => rfl
      | 1 => rfl
      | 2 => exact (Nat.zero_add _).symm
      | 3 => exact (Nat.zero_add _).symm)
    rw [E, hxs]
    subst hr
    exact congrArg _ (scrR_in H g e a.val k.val (by omega))
  have hs' := hs
  rw [← blk_tile (q := q) Wc hR i I J hI] at hs'
  have h1 := hl 1 inb1
  rw [(scale_tile xb Wc hb inb i j I J hI hJ hs).2,
    totT_real (q := q) hn hc.factor _ h1 (hl iq inbq) (hl ic inbc) _ j _ (fun k => ld_tile xb Wc hb inb hR k j J hJ) i8 i hi hs',
    blk_tile (q := q) Wc hR i I J hI]
  congr 2
  funext x
  congr 1
  exact Fin.ext (by show r + (i.val * 32 + x.val) = I.val * 32 + x.val; omega)

omit hb hS in
theorem err8_at (w : FVec Ideal ⟨2, ![256, 128]⟩ .bf16) (up : BitVec 16) (a b d : FVec Ideal ⟨4, ![1, 1, 32, 256]⟩ .bf16) (i : Fin 8) (j : Fin 128) :
    err8 w up a b d (ix3 0 i j) = totT (nb := 8) (q := 32) w up a b d (ix2 i j) * unitT (nb := 8) (q := 32) w (ix2 i j) * unitT (nb := 8) (q := 32) w (ix2 i j) := by
  unfold err8
  generalize totT (nb := 8) (q := 32) w up a b d = t
  generalize unitT (nb := 8) (q := 32) w = e
  pointwise

omit hb hS in
theorem err2_at (w : FVec Ideal ⟨2, ![64, 128]⟩ .bf16) (up : BitVec 16) (a b d : FVec Ideal ⟨4, ![1, 1, 32, 64]⟩ .bf16) (i : Fin 2) (j : Fin 128) :
    err2 w up a b d (ix3 0 i j) = totT (nb := 2) (q := 8) w up a b d (ix2 ⟨i.val, by omega⟩ j) * unitT (nb := 2) (q := 8) w (ix2 i j)
      * unitT (nb := 2) (q := 8) w (ix2 i j) := by
  unfold err2
  generalize totT (nb := 2) (q := 8) w up a b d = t
  generalize unitT (nb := 2) (q := 8) w = e
  pointwise

theorem err_spec (xs : Vec Ideal S12x4x32x256 .bf16) (H : Fin 2880 → ℝ) (hxs : ∀ z, xs z = ((scrR H (z 0).val (z 1).val (z 2).val (z 3).val : ℝ) : EReal))
    (y : S3x90x640.Idx) : ErrSpec xb xs y ((errR (fun x => H ⟨(y 1).val * 32 + x.val, by have : (y 1).val < 90 := (y 1).isLt; omega⟩)
      (colBlk Wc (y 1) (y 2)) (u (y 1) (y 2)) (v (y 1) (y 2)) (candR (y 0).val) : ℝ) : EReal) where
  full hc _ _ _ inb inb1 inbq inbc x e0 er e1 e2 := by
    rw [eq_ix3_lead x, e0]
    refine (err8_at _ _ _ _ _ (x 1) (x 2)).trans ?_
    exact err_tile (nb := 8) (q := 32) xb Wc hb inb xs H hxs (by decide) hc er inb1 inbq inbc (x 1) (x 1) rfl (x 2) (y 1) (y 2) e1 e2 (hS (y 1) (y 2))
  last hc _ _ _ inb inb1 inbq inbc x e0 er e1 e2 := by
    rw [eq_ix3_lead x, e0]
    refine (err2_at _ _ _ _ _ (x 1) (x 2)).trans ?_
    exact err_tile (nb := 2) (q := 8) xb Wc hb inb xs H hxs (by decide) hc er inb1 inbq inbc _ (x 1) rfl (x 2) (y 1) (y 2) e1 e2 (hS (y 1) (y 2))

theorem code_spec (y : S1440x640.Idx) (p : Fin 1440) (J : Fin 640) (hp : y = ix2 p J) : CodeSpec xb y
    (BitVec.ofNat 8 (nibR (colBlk Wc ⟨p.val / 16, by omega⟩ J ⟨p.val % 16 * 2, by omega⟩ * v ⟨p.val / 16, by omega⟩ J)
        + 16 * nibR (colBlk Wc ⟨p.val / 16, by omega⟩ J ⟨p.val % 16 * 2 + 1, by omega⟩ * v ⟨p.val / 16, by omega⟩ J))) where
  full inb x er e0 e1 := by
    subst hp
    rw [eq_ix2 x]
    exact byte_tile (q := 32) (nb := 8) xb Wc hb inb hS (by decide) er _ rfl (x 0) (x 1) p J e0 e1
  last inb x er e0 e1 := by
    subst hp
    rw [eq_ix2 x]
    exact byte_tile (q := 8) (nb := 2) xb Wc hb inb hS (by decide) er _ rfl (x 0) (x 1) p J e0 e1

theorem scale_spec (y : S90x640.Idx) : ScaleSpec xb y (BitVec.ofNat 8 (sc (y 0) (y 1))) where
  full inb x e0 e1 := by
    refine (congrArg (BitVec.setWidth 8) ((congrArg _ (eq_ix2 x)).trans
      (scale_tile (q := 32) (nb := 8) xb Wc hb inb (x 0) (x 1) (y 0) (y 1) e0 e1 (hS (y 0) (y 1))).1)).trans ?_
    exact BitVec.eq_of_toNat_eq (by simp [BitVec.toNat_setWidth])
  last inb x e0 e1 := by
    refine (congrArg (BitVec.setWidth 8) ((congrArg _ (eq_ix2 x)).trans
      (scale_tile (q := 8) (nb := 2) xb Wc hb inb (x 0) (x 1) (y 0) (y 1) e0 e1 (hS (y 0) (y 1))).1)).trans ?_
    exact BitVec.eq_of_toNat_eq (by simp [BitVec.toNat_setWidth])
end

end Cert.Proof
end
-- ==== Proof.Codes.lean ====
/- The codes and the scale bytes that a grid point leaves in its blocks, for any float instance. -/
module

public import proofs.«01_k».proof.Proof.Spec

@[expose] public section

set_option maxRecDepth 16384
set_option maxHeartbeats 16000000

noncomputable section

namespace Cert.Proof

open Idealize.ShloMosaic Idealize.SL.Sem Cert.KernelIdeal Cert.KernelIdeal.Gen

variable {F : FTy → Type} [FloatOps F]

/-- A point of case A leaves `v` at `y` of its block of codes when every tile holding `y` does. -/
theorem code_A (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : cond0_0 i)
    (x0 : Vec F S2x2880x128 .bf16) (x1 : Vec F S2880x640 .bf16) (y : S1440x640.Idx) (v : BitVec 8) (H : CodeSpec x1 y v) :
    out0_A_3 c i arg1 harg1 arg2 harg2 arg3 harg3 arg4 harg4 arg5 harg5 arg6 harg6 hc0 x0 x1 y = v := by
  frame_out
  canon_tiles x h using View.cover_of_tiledBy _ ![32, 128] (by sl_kernel_rfl) _
  all_goals generalize hw : View.ld x1 _ = w
  all_goals first
    | exact H.use8 w hw x rfl (by omega) (by omega)
    | exact H.use2 w hw x rfl (by omega) (by omega)

/-- A point of case A leaves `v` at `y` of its block of scale bytes when every group holding `y` does. -/
theorem scale_A (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : cond0_0 i)
    (x0 : Vec F S2x2880x128 .bf16) (x1 : Vec F S2880x640 .bf16) (y : S90x640.Idx) (v : BitVec 8) (H : ScaleSpec x1 y v) :
    out0_A_4 c i arg1 harg1 arg2 harg2 arg3 harg3 arg4 harg4 arg5 harg5 arg6 harg6 hc0 x0 x1 y = v := by
  frame_out
  canon_tiles x h
  all_goals generalize hw0 : View.ld x1 _ = w0
  all_goals generalize hw1 : View.ld x1 _ = w1
  all_goals generalize hw2 : View.ld x1 _ = w2
  all_goals generalize hw3 : View.ld x1 _ = w3
  all_goals generalize hw4 : View.ld x1 _ = w4
  all_goals generalize hw5 : View.ld x1 _ = w5
  all_goals generalize hw6 : View.ld x1 _ = w6
  all_goals generalize hw7 : View.ld x1 _ = w7
  all_goals generalize hw8 : View.ld x1 _ = w8
  all_goals generalize hw9 : View.ld x1 _ = w9
  all_goals generalize hw10 : View.ld x1 _ = w10
  all_goals generalize hw11 : View.ld x1 _ = w11
  all_goals
    refine scaleCat_at (scaleT (nb := 8) (q := 32) w0) (scaleT (nb := 8) (q := 32) w1) (scaleT (nb := 8) (q := 32) w2) (scaleT (nb := 8) (q := 32) w3) (scaleT (nb := 8) (q := 32) w4) (scaleT (nb := 8) (q := 32) w5) (scaleT (nb := 8) (q := 32) w6) (scaleT (nb := 8) (q := 32) w7) (scaleT (nb := 8) (q := 32) w8) (scaleT (nb := 8) (q := 32) w9) (scaleT (nb := 8) (q := 32) w10)
      (scaleT (nb := 2) (q := 8) w11) x v ?_ ?_ ?_ ?_ ?_ ?_ ?_ ?_ ?_ ?_ ?_ ?_
  all_goals first
    | exact fun z => H.use8 hw0 (by omega) (by omega) z
    | exact fun z => H.use8 hw1 (by omega) (by omega) z
    | exact fun z => H.use8 hw2 (by omega) (by omega) z
    | exact fun z => H.use8 hw3 (by omega) (by omega) z
    | exact fun z => H.use8 hw4 (by omega) (by omega) z
    | exact fun z => H.use8 hw5 (by omega) (by omega) z
    | exact fun z => H.use8 hw6 (by omega) (by omega) z
    | exact fun z => H.use8 hw7 (by omega) (by omega) z
    | exact fun z => H.use8 hw8 (by omega) (by omega) z
    | exact fun z => H.use8 hw9 (by omega) (by omega) z
    | exact fun z => H.use8 hw10 (by omega) (by omega) z
    | exact fun z => H.use2 hw11 (by omega) (by omega) z

/-- A point of case B leaves `v` at `y` of its block of codes when every tile holding `y` does. -/
theorem code_B (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : ¬cond0_0 i)
    (x0 : Vec F S2x2880x128 .bf16) (x1 : Vec F S2880x640 .bf16) (xs : Vec F S12x4x32x256 .bf16) (y : S1440x640.Idx) (v : BitVec 8) (H : CodeSpec x1 y v) :
    out0_B_3 c i arg1 harg1 arg2 harg2 arg3 harg3 arg4 harg4 arg5 harg5 arg6 harg6 hc0 x0 x1 xs y = v := by
  frame_out
  canon_tiles x h using View.cover_of_tiledBy _ ![32, 128] (by sl_kernel_rfl) _
  all_goals generalize hw : View.ld x1 _ = w
  all_goals first
    | exact H.use8 w hw x rfl (by omega) (by omega)
    | exact H.use2 w hw x rfl (by omega) (by omega)

/-- A point of case B leaves `v` at `y` of its block of scale bytes when every group holding `y` does. -/
theorem scale_B (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : ¬cond0_0 i)
    (x0 : Vec F S2x2880x128 .bf16) (x1 : Vec F S2880x640 .bf16) (xs : Vec F S12x4x32x256 .bf16) (y : S90x640.Idx) (v : BitVec 8) (H : ScaleSpec x1 y v) :
    out0_B_4 c i arg1 harg1 arg2 harg2 arg3 harg3 arg4 harg4 arg5 harg5 arg6 harg6 hc0 x0 x1 xs y = v := by
  frame_out
  canon_tiles x h
  all_goals generalize hw0 : View.ld x1 _ = w0
  all_goals generalize hw1 : View.ld x1 _ = w1
  all_goals generalize hw2 : View.ld x1 _ = w2
  all_goals generalize hw3 : View.ld x1 _ = w3
  all_goals generalize hw4 : View.ld x1 _ = w4
  all_goals generalize hw5 : View.ld x1 _ = w5
  all_goals generalize hw6 : View.ld x1 _ = w6
  all_goals generalize hw7 : View.ld x1 _ = w7
  all_goals generalize hw8 : View.ld x1 _ = w8
  all_goals generalize hw9 : View.ld x1 _ = w9
  all_goals generalize hw10 : View.ld x1 _ = w10
  all_goals generalize hw11 : View.ld x1 _ = w11
  all_goals
    refine scaleCat_at (scaleT (nb := 8) (q := 32) w0) (scaleT (nb := 8) (q := 32) w1) (scaleT (nb := 8) (q := 32) w2) (scaleT (nb := 8) (q := 32) w3) (scaleT (nb := 8) (q := 32) w4) (scaleT (nb := 8) (q := 32) w5) (scaleT (nb := 8) (q := 32) w6) (scaleT (nb := 8) (q := 32) w7) (scaleT (nb := 8) (q := 32) w8) (scaleT (nb := 8) (q := 32) w9) (scaleT (nb := 8) (q := 32) w10)
      (scaleT (nb := 2) (q := 8) w11) x v ?_ ?_ ?_ ?_ ?_ ?_ ?_ ?_ ?_ ?_ ?_ ?_
  all_goals first
    | exact fun z => H.use8 hw0 (by omega) (by omega) z
    | exact fun z => H.use8 hw1 (by omega) (by omega) z
    | exact fun z => H.use8 hw2 (by omega) (by omega) z
    | exact fun z => H.use8 hw3 (by omega) (by omega) z
    | exact fun z => H.use8 hw4 (by omega) (by omega) z
    | exact fun z => H.use8 hw5 (by omega) (by omega) z
    | exact fun z => H.use8 hw6 (by omega) (by omega) z
    | exact fun z => H.use8 hw7 (by omega) (by omega) z
    | exact fun z => H.use8 hw8 (by omega) (by omega) z
    | exact fun z => H.use8 hw9 (by omega) (by omega) z
    | exact fun z => H.use8 hw10 (by omega) (by omega) z
    | exact fun z => H.use2 hw11 (by omega) (by omega) z

end Cert.Proof
end
-- ==== Proof.ErrA.lean ====
/- The errors that the first grid point leaves in its block, for any float instance: its products read the left operand
   that the same point stored. -/
module

public import proofs.«01_k».proof.Proof.Spec

@[expose] public section

set_option maxRecDepth 16384
set_option maxHeartbeats 16000000

noncomputable section

namespace Cert.Proof

open Idealize.ShloMosaic Idealize.SL.Sem Cert.KernelIdeal Cert.KernelIdeal.Gen

variable {F : FTy → Type} [FloatOps F]

/-- The first point leaves `v` at `y` of its block of errors when every tile holding `y` does, its products reading what the
    point itself leaves in the scratch. -/
theorem err_A (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : cond0_0 i)
    (x0 : Vec F S2x2880x128 .bf16) (x1 : Vec F S2880x640 .bf16) (y : S3x90x640.Idx) (v : F .f32)
    (H : ErrSpec x1 (sout0_A_0 c i arg1 harg1 arg2 harg2 arg3 harg3 arg4 harg4 arg5 harg5 arg6 harg6 hc0 x0 x1) y v) :
    out0_A_2 c i arg1 harg1 arg2 harg2 arg3 harg3 arg4 harg4 arg5 harg5 arg6 harg6 hc0 x0 x1 y = v := by
  generalize hL : sout0_A_0 c i arg1 harg1 arg2 harg2 arg3 harg3 arg4 harg4 arg5 harg5 arg6 harg6 hc0 x0 x1 = xs at H
  frame_out at hL
  frame_out
  canon_tiles x h using View.cover_of_tiledBy _ ![1, 2, 128] (by sl_kernel_rfl) _
  all_goals generalize hw : View.ld x1 _ = w
  all_goals generalize hA : View.readCov (Val := Elt F) arg6.view _ (Rect.toLoadRect _) = A
  all_goals generalize hB : View.readCov (Val := Elt F) arg6.view _ (Rect.toLoadRect _) = B
  all_goals replace hA := ld_of_readCov hL hA
  all_goals replace hB := ld_of_readCov hL hB
  all_goals first
    | exact H.use8 .half w A B A hw hA hB hA x (by omega) rfl (by omega) (by omega)
    | exact H.use8 .one w A A B hw hA hA hB x (by omega) rfl (by omega) (by omega)
    | exact H.use8 .two w A B B hw hA hB hB x (by omega) rfl (by omega) (by omega)
    | exact H.use2 .half w A B A hw hA hB hA x (by omega) rfl (by omega) (by omega)
    | exact H.use2 .one w A A B hw hA hA hB x (by omega) rfl (by omega) (by omega)
    | exact H.use2 .two w A B B hw hA hB hB x (by omega) rfl (by omega) (by omega)

end Cert.Proof
end
-- ==== Proof.ErrB.lean ====
/- The errors that a grid point after the first leaves in its block, for any float instance. -/
module

public import proofs.«01_k».proof.Proof.Spec

@[expose] public section

set_option maxRecDepth 16384
set_option maxHeartbeats 16000000

noncomputable section

namespace Cert.Proof

open Idealize.ShloMosaic Idealize.SL.Sem Cert.KernelIdeal Cert.KernelIdeal.Gen

variable {F : FTy → Type} [FloatOps F]

/-- A point after the first leaves `v` at `y` of its block of errors when every tile holding `y` does. -/
theorem err_B (c : Dev nD) (i : grid0.Coords) (arg1 : Memref sig .tc .vmem S2x2880x128 .bf16) (harg1 : arg1.IsWhole)
    (arg2 : Memref sig .tc .vmem S2880x640 .bf16) (harg2 : arg2.IsWhole) (arg3 : Memref sig .tc .vmem S3x90x640 .f32) (harg3 : arg3.IsWhole)
    (arg4 : Memref sig .tc .vmem S1440x640 .i8) (harg4 : arg4.IsWhole) (arg5 : Memref sig .tc .vmem S90x640 .i8) (harg5 : arg5.IsWhole)
    (arg6 : Memref sig .tc .vmem S12x4x32x256 .bf16) (harg6 : arg6.IsWhole) (hc0 : ¬cond0_0 i)
    (x0 : Vec F S2x2880x128 .bf16) (x1 : Vec F S2880x640 .bf16) (xs : Vec F S12x4x32x256 .bf16) (y : S3x90x640.Idx) (v : F .f32) (H : ErrSpec x1 xs y v) :
    out0_B_2 c i arg1 harg1 arg2 harg2 arg3 harg3 arg4 harg4 arg5 harg5 arg6 harg6 hc0 x0 x1 xs y = v := by
  frame_out
  canon_tiles x h using View.cover_of_tiledBy _ ![1, 2, 128] (by sl_kernel_rfl) _
  all_goals generalize hw : View.ld x1 _ = w
  all_goals generalize hA : View.ld xs _ = A
  all_goals generalize hB : View.ld xs _ = B
  all_goals first
    | exact H.use8 .half w A B A hw hA hB hA x (by omega) rfl (by omega) (by omega)
    | exact H.use8 .one w A A B hw hA hA hB x (by omega) rfl (by omega) (by omega)
    | exact H.use8 .two w A B B hw hA hB hB x (by omega) rfl (by omega) (by omega)
    | exact H.use2 .half w A B A hw hA hB hA x (by omega) rfl (by omega) (by omega)
    | exact H.use2 .one w A A B hw hA hA hB x (by omega) rfl (by omega) (by omega)
    | exact H.use2 .two w A B B hw hA hB hB x (by omega) rfl (by omega) (by omega)

end Cert.Proof
end
-- ==== Proof.RefScale.lean ====
/- The reference over the reals: a block's exponent, its candidates' powers of two and the scaled weights. -/
module

public import proofs.«01_k».proof.Proof.Words
public import proofs.«01_k».proof.Proof.Gen.ReferenceIdeal.Read

@[expose] public section

set_option maxRecDepth 16384

noncomputable section

namespace Cert.Proof

open Idealize.ShloMosaic Cert.ReferenceIdeal Cert.ReferenceIdeal.Gen Cert.ReferenceIdeal.Read

/-- Block `i` of column `j` of the weights. -/
def wblk (W : Fin 2880 → Fin 5760 → ℝ) (i : Fin 90) (j : Fin 5760) (x : Fin 32) : ℝ := W ⟨i.val * 32 + x.val, by omega⟩ j

/-- The factor of candidate `c`. -/
def facR (c : Fin 3) : ℝ := (2 : ℝ) ^ (1 - (c.val : ℤ))

theorem fptosi_wide (N : ℤ) (h1 : -1000 ≤ N) (h2 : N ≤ 1000) : Ideal.fptosi 32 (((N : ℤ) : ℝ) : EReal) = BitVec.ofInt 32 N := by
  show BitVec.ofInt 32 (max _ (min _ (if (0 : ℝ) ≤ (N : ℝ) then ⌊(N : ℝ)⌋ else ⌈(N : ℝ)⌉))) = _
  rw [Int.floor_intCast, Int.ceil_intCast, ite_self]
  congr 1
  norm_num
  omega

theorem ofBits_two32 : Ideal.ofBits .f32 0x40000000#32 = ((2 : ℝ) : EReal) := by
  simp [Ideal.ofBits, Ideal.ieee, -EReal.coe_mul]; norm_num
theorem ofBits_four32 : Ideal.ofBits .f32 0x40800000#32 = ((4 : ℝ) : EReal) := by
  simp [Ideal.ofBits, Ideal.ieee, -EReal.coe_mul]; norm_num

/-- The exponent of a positive number is the floor of its base-two logarithm. -/
theorem floor_log (a : ℝ) (n : ℤ) (h1 : (2 : ℝ) ^ n ≤ a) (h2 : a < (2 : ℝ) ^ (n + 1)) : ⌊Real.log a / Real.log 2⌋ = n := by
  have ha : 0 < a := lt_of_lt_of_le (by positivity) h1
  have hl : 0 < Real.log 2 := Real.log_pos (by norm_num)
  rw [Int.floor_eq_iff]
  constructor
  · rw [le_div_iff₀ hl, ← Real.log_zpow]
    exact Real.log_le_log (by positivity) h1
  · rw [div_lt_iff₀ hl]
    have := Real.log_lt_log ha h2
    rw [Real.log_zpow] at this
    push_cast at this
    exact this

section
variable (x1 : (⟨S2880x5760, .bf16⟩ : BufTy).Contents (Elt Ideal)) (W : Fin 2880 → Fin 5760 → ℝ)
  (hw : ∀ k j, x1 (ix2 k j) = ((W k j : ℝ) : EReal)) (i : Fin 90) (j : Fin 5760)
include hw

theorem v6_real (x : Fin 32) : val_main_v6 (F := Ideal) x1 (ix3 i x j) = ((wblk W i j x : ℝ) : EReal) := by
  have e : val_main_v6 (F := Ideal) x1 (ix3 i x j) = x1 (ix2 ⟨i.val * 32 + x.val, by omega⟩ j) := by
    unfold val_main_v6 val_main_v5; pointwise
  rw [e, hw]; rfl

theorem v8_real : ∃ x, (∀ y, |wblk W i j y| ≤ |wblk W i j x|) ∧
    val_main_v8 (F := Ideal) x1 (ix2 i j) = ((|wblk W i j x| : ℝ) : EReal) := by
  have e : val_main_v8 (F := Ideal) x1 (ix2 i j)
      = Finset.univ.fold max (Ideal.ofBits .f32 4286578688#32) fun x : Fin 32 =>
        FloatOps.absf (F := Ideal) (φ := .f32) (val_main_v6 (F := Ideal) x1 (ix3 i x j)) := by
    unfold val_main_v8 val_main_cst_1 val_main_v7; pointwise
  rw [e, ofBits_bot]
  simp only [v6_real x1 W hw, absf_coe]
  exact fold_max_abs (wblk W i j)

/-- A block's exponent `E`: its power of two, the reciprocal and its scale byte, or that it is a block of zeros. -/
structure RScale (f : Fin 32 → ℝ) (u r : ℝ) (sc : ℕ) (E : ℤ) : Prop where
  lo : -126 ≤ E
  hi : E ≤ 125
  byte : (sc : ℤ) = E + 127
  val : ((∀ x, f x = 0) ∧ r = 0) ∨ (u = (2 : ℝ) ^ E ∧ r = (2 : ℝ) ^ (-E))

omit hw in
theorem v19_read : val_main_v19 (F := Ideal) x1 (ix2 i j) = FloatOps.fptosi (F := Ideal) (φ := .f32) 32
    (Scalar.select (FloatOps.cmpf (F := Ideal) (φ := .f32) .oeq (val_main_v8 (F := Ideal) x1 (ix2 i j)) (FloatOps.ofBits .f32 0x00000000#32))
      (FloatOps.sitofp (F := Ideal) FTy.f32 0#32)
      (FloatOps.subf (F := Ideal) (φ := .f32) (FloatOps.hostUnary .floor (FloatOps.hostDivf (FloatOps.hostUnary .log (val_main_v8 (F := Ideal) x1 (ix2 i j)))
        (FloatOps.hostUnary .log (FloatOps.ofBits .f32 0x40000000#32)))) (FloatOps.ofBits .f32 0x40000000#32))) := by
  rw [val_main_v19_apply, val_main_v18_apply, val_main_v15_apply, val_main_v14_apply, val_main_cst_3_apply, val_main_call0_v1_apply,
    val_main_call0_v0_apply, val_main_c_apply, val_main_v17_apply, val_main_v16_apply, val_main_cst_4_apply, val_main_v13_apply, val_main_v12_apply,
    val_main_v11_apply, val_main_v10_apply, val_main_v9_apply, val_main_cst_2_apply]

omit hw in
theorem select_zero (a : EReal) {α : Type} (x y : α) :
    Scalar.select (FloatOps.cmpf (F := Ideal) (φ := .f32) .oeq a (FloatOps.ofBits .f32 0x00000000#32)) x y = open Classical in if a = 0 then x else y := by
  classical
  rw [Ideal.cmpf_def, show (FloatOps.ofBits (F := Ideal) .f32 0x00000000#32) = (0 : EReal) from Ideal.ofBits_zero_f32]
  by_cases h : a = 0
  · rw [if_pos h, show Ideal.cmp .oeq a 0 = BitVec.ofBool (decide (a = 0)) from rfl, decide_eq_true h]; rfl
  · rw [if_neg h, show Ideal.cmp .oeq a 0 = BitVec.ofBool (decide (a = 0)) from rfl, decide_eq_false h]; rfl

omit hw in
theorem sitofp_zero : FloatOps.sitofp (F := Ideal) FTy.f32 0#32 = ((0 : ℝ) : EReal) := by
  show (((0#32 : BitVec 32).toInt : ℝ) : EReal) = _
  rw [show (0#32 : BitVec 32).toInt = 0 by decide, Int.cast_zero]

omit hw in
theorem fptosi_def (x : EReal) : FloatOps.fptosi (F := Ideal) (φ := .f32) 32 x = Ideal.fptosi 32 x := rfl

omit hw in
theorem floor_coe (t : ℝ) : FloatOps.hostUnary (F := Ideal) (φ := .f32) .floor (t : EReal) = (((⌊t⌋ : ℤ) : ℝ) : EReal) := rfl

/-- The reference's exponent of a block. -/
theorem v19_real {u r : ℝ} {sc : ℕ} (h : Scale (wblk W i j) u r sc) :
    ∃ E, RScale (wblk W i j) u r sc E ∧ val_main_v19 (F := Ideal) x1 (ix2 i j) = BitVec.ofInt 32 E := by
  obtain ⟨x, hx, e⟩ := v8_real x1 W hw i j
  rw [v19_read, select_zero, fptosi_def, sitofp_zero, e, Ideal.hostUnary_log_def, Ideal.hostUnary_log_def, Ideal.hostDivf_def, Ideal.subf_def,
    show (FloatOps.ofBits (F := Ideal) .f32 0x40000000#32) = ((2 : ℝ) : EReal) from ofBits_two32]
  cases h with
  | zero hz =>
    refine ⟨0, ⟨by norm_num, by norm_num, by norm_num, .inl ⟨hz, rfl⟩⟩, ?_⟩
    rw [hz x, abs_zero, if_pos EReal.coe_zero]
    have := fptosi_wide 0 (by norm_num) (by norm_num)
    rwa [Int.cast_zero] at this
  | top n hn1 hn2 hl hg =>
    obtain ⟨y, hy⟩ := hg
    have hlow := le_trans hy (hx y)
    have hpos : 0 < |wblk W i j x| := lt_of_lt_of_le (by positivity) hlow
    have hbyte : (((n + 125).toNat : ℕ) : ℤ) = n - 2 + 127 := by omega
    have hr : (2 : ℝ) ^ (2 - n) = (2 : ℝ) ^ (-(n - 2)) := by rw [neg_sub]
    refine ⟨n - 2, ⟨by omega, by omega, hbyte, .inr ⟨rfl, hr⟩⟩, ?_⟩
    have hne : ¬((|wblk W i j x| : ℝ) : EReal) = 0 := fun h => hpos.ne' (EReal.coe_eq_zero.1 h)
    have h20 : ¬(2 : ℝ) ≤ 0 := by norm_num
    have h2 : Real.log 2 ≠ 0 := (Real.log_pos (by norm_num)).ne'
    have hc : ((n : ℝ) - 2) = ((n - 2 : ℤ) : ℝ) := by push_cast; ring
    rw [if_neg hne, Ideal.log_coe, Ideal.log_coe, if_neg (not_le.2 hpos), if_neg h20,
      div_coe _ _ h2, floor_coe, floor_log _ n hlow (hl x), ← EReal.coe_sub, hc, fptosi_wide (n - 2) (by omega) (by omega)]

theorem ofInt_sub_one_add (E : ℤ) (c : Fin 3) :
    IntOp.addi (BitVec.ofInt 32 E) (IntOp.subi (BitVec.ofNat 32 c.val) 1#32) = BitVec.ofInt 32 (E + (c.val - 1)) := by
  clear hw
  have : IntOp.subi (BitVec.ofNat 32 c.val) 1#32 = BitVec.ofInt 32 ((c.val : ℤ) - 1) := by revert c; decide
  rw [this]; exact (BitVec.ofInt_add ..).symm

theorem toInt_small (N : ℤ) (h1 : -1000 ≤ N) (h2 : N ≤ 1000) : (BitVec.ofInt 32 N).toInt = N := by
  clear hw
  rw [BitVec.toInt_ofInt]; apply Int.bmod_eq_of_le <;> norm_num <;> omega

theorem pow_two (N : ℤ) : Ideal.pow ((2 : ℝ) : EReal) (((N : ℤ) : ℝ) : EReal) = (((2 : ℝ) ^ N : ℝ) : EReal) := by
  clear hw
  show ((Real.rpow 2 (N : ℝ) : ℝ) : EReal) = _
  exact congrArg _ (Real.rpow_intCast 2 N)

theorem v27_real {E : ℤ} (hE : val_main_v19 (F := Ideal) x1 (ix2 i j) = BitVec.ofInt 32 E) (c : Fin 3) :
    val_main_v27 (F := Ideal) x1 (ix3 i j c) = BitVec.ofInt 32 (E + (c.val - 1)) := by
  have e : val_main_v27 (F := Ideal) x1 (ix3 i j c)
      = IntOp.addi (val_main_v19 (F := Ideal) x1 (ix2 i j)) (IntOp.subi (BitVec.ofNat 32 c.val) 1#32) := by
    unfold val_main_v27 val_main_v26 val_main_v25 val_main_v24 val_main_v23 val_main_v22 val_main_v21 val_main_v20 val_main_c_5
    pointwise
  rw [e, hE, ofInt_sub_one_add x1 W hw]

theorem v32_real {E : ℤ} (h1 : -126 ≤ E) (h2 : E ≤ 125) (hE : val_main_v19 (F := Ideal) x1 (ix2 i j) = BitVec.ofInt 32 E) (c : Fin 3) :
    val_main_v32 (F := Ideal) x1 (ix3 i j c) = (((2 : ℝ) ^ (-(E + (c.val - 1))) : ℝ) : EReal) := by
  have e : val_main_v32 (F := Ideal) x1 (ix3 i j c) = Ideal.pow (Ideal.ofBits .f32 0x40000000#32)
      ((((-(val_main_v27 (F := Ideal) x1 (ix3 i j c))).toInt : ℤ) : ℝ) : EReal) := by
    unfold val_main_v32 val_main_v31 val_main_cst_6 val_main_v30 val_main_v29
    pointwise
    rfl
  have hneg : -(BitVec.ofInt 32 (E + (c.val - 1))) = BitVec.ofInt 32 (-(E + (c.val - 1))) := (BitVec.ofInt_neg ..).symm
  have := c.isLt
  rw [e, v27_real x1 W hw i j hE, hneg, toInt_small x1 W hw _ (by omega) (by omega), ofBits_two32, pow_two x1 W hw]

theorem v61_real {E : ℤ} (h1 : -126 ≤ E) (h2 : E ≤ 125) (hE : val_main_v19 (F := Ideal) x1 (ix2 i j) = BitVec.ofInt 32 E) (c : Fin 3) :
    val_main_v61 (F := Ideal) x1 (ix3 i j c) = (((2 : ℝ) ^ (E + (c.val - 1)) : ℝ) : EReal) := by
  have e : val_main_v61 (F := Ideal) x1 (ix3 i j c) = Ideal.pow (Ideal.ofBits .f32 0x40000000#32)
      ((((val_main_v27 (F := Ideal) x1 (ix3 i j c)).toInt : ℤ) : ℝ) : EReal) := by
    unfold val_main_v61 val_main_v60 val_main_cst_14 val_main_v59
    pointwise
    rfl
  have := c.isLt
  rw [e, v27_real x1 W hw i j hE, toInt_small x1 W hw _ (by omega) (by omega), ofBits_two32, pow_two x1 W hw]

/-- The scaled weights. -/
theorem v36_real {u r : ℝ} {sc : ℕ} {E : ℤ} (hs : RScale (wblk W i j) u r sc E)
    (hE : val_main_v19 (F := Ideal) x1 (ix2 i j) = BitVec.ofInt 32 E) (x : Fin 32) (c : Fin 3) :
    val_main_v36 (F := Ideal) x1 (ix4 i x j c) = ((wblk W i j x * r * facR c : ℝ) : EReal) := by
  have e : val_main_v36 (F := Ideal) x1 (ix4 i x j c) = val_main_v6 (F := Ideal) x1 (ix3 i x j) * val_main_v32 (F := Ideal) x1 (ix3 i j c) := by
    unfold val_main_v36 val_main_v35 val_main_v34 val_main_v33 val_main_v28
    pointwise
  rw [e, v6_real x1 W hw, v32_real x1 W hw i j hs.lo hs.hi hE, ← EReal.coe_mul]
  refine congrArg Real.toEReal ?_
  rcases hs.val with ⟨hz, -⟩ | ⟨-, hr⟩
  · rw [hz x]; ring
  · rw [hr, facR, mul_assoc, ← zpow_add₀ (by norm_num)]; congr 2; ring

/-- What the values rounded to the grid stand for. -/
theorem deq_pow {f : Fin 32 → ℝ} {u r : ℝ} {sc : ℕ} {E : ℤ} (hs : RScale f u r sc E) (x : Fin 32) (c : Fin 3) :
    (countR (f x * r * facR c) : ℝ) * stepR (f x * r * facR c) * (2 : ℝ) ^ (E + (c.val - 1))
      = countR (f x * r * facR c) * stepR (f x * r * facR c) * (u / facR c) := by
  clear hw
  rcases hs.val with ⟨hz, -⟩ | ⟨hu, -⟩
  · have h0 : countR 0 = 0 := by have := countR_neg 0; rw [neg_zero] at this; omega
    rw [hz x, zero_mul, zero_mul, h0]; simp
  · rw [hu, facR, ← zpow_sub₀ (by norm_num)]; congr 2; ring
end

end Cert.Proof
end
-- ==== Proof.Whole.lean ====
/- The three results of the whole kernel over the reals: each grid point's strip of columns, put together. -/
module

public import proofs.«01_k».proof.Proof.Point
public import proofs.«01_k».proof.Proof.Codes
public import proofs.«01_k».proof.Proof.ErrA
public import proofs.«01_k».proof.Proof.ErrB
public import proofs.«01_k».proof.Proof.RefScale
public import proofs.«01_k».proof.Proof.Gen.KernelIdeal.Value

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen Cert.KernelIdeal.Value

/-- The error of candidate `cc` on block `I` of column `J`. -/
def errAt (H : Fin 2880 → ℝ) (W : Fin 2880 → Fin 5760 → ℝ) (u v : Fin 90 → Fin 5760 → ℝ) (cc : ℕ) (I : Fin 90) (J : Fin 5760) : ℝ :=
  errR (fun x => H ⟨I.val * 32 + x.val, by omega⟩) (wblk W I J) (u I J) (v I J) (candR cc)

/-- The byte of codes of rows `2 p` and `2 p + 1` of column `J`. -/
def codeAt (W : Fin 2880 → Fin 5760 → ℝ) (v : Fin 90 → Fin 5760 → ℝ) (p : Fin 1440) (J : Fin 5760) : BitVec 8 :=
  BitVec.ofNat 8 (nibR (wblk W ⟨p.val / 16, by omega⟩ J ⟨p.val % 16 * 2, by omega⟩ * v ⟨p.val / 16, by omega⟩ J)
    + 16 * nibR (wblk W ⟨p.val / 16, by omega⟩ J ⟨p.val % 16 * 2 + 1, by omega⟩ * v ⟨p.val / 16, by omega⟩ J))

/-- Column `j` of point `t`'s strip. -/
def colOf (t : Fin cfg0.N) (j : Fin 640) : Fin 5760 := ⟨640 * t.val + j.val, by have := t.isLt; have : cfg0.N = 9 := N_0; omega⟩

variable (m : (ℓ : Loc nD τ sig) → Buf (Elt Ideal) ℓ) (c : Dev nD)

theorem V_main_v0 : V m c main_v0 = transpose S2x2880x128 [0, 2, 1] (m ((c : Thread nD τ).loc main_arg0)) transposes_S2x128x2880_S2x2880x128_0_2_1 := by
  simp only [V, hostOps0, StableHlo.after_cons, StableHlo.after_nil]
  after_results_simp

theorem idx_facts0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_facts1 : ∀ t : Fin cfg0.N, win0_1.index t (0 : Fin 2) = 0 ∧ win0_1.index t (1 : Fin 2) = t.val :=
  (by decide +kernel : ∀ t : Fin grid0.N, _)

theorem iblk0_at (t : Fin cfg0.N) (b : Fin 2) (k : Fin 2880) (s : Fin 128) :
    (iblk m c 0 t : Vec Ideal S2x2880x128 .bf16) (ix3 b k s) = (m ((c : Thread nD τ).loc main_arg0) : Vec Ideal S2x128x2880 .bf16) (ix3 b s k) := by
  have e : (iblk m c 0 t : Vec Ideal S2x2880x128 .bf16) (ix3 b k s) = V m c main_v0 (((cfg0.win 0).blk t).view.emb (ix3 b k s)) := rfl
  obtain ⟨e0, e1, e2⟩ := idx_facts0 t
  have hi : ((cfg0.win 0).blk t).view.emb (ix3 b k s) = (ix3 b k s : S2x2880x128.Idx) := by
    funext a
    apply Fin.ext
    match a with
    | ⟨0, _⟩ => show win0_0.index t (0 : Fin 3) * 2 + 1 * b.val = b.val; omega
    | ⟨1, _⟩ => show win0_0.index t (1 : Fin 3) * 2880 + 1 * k.val = k.val; omega
    | ⟨2, _⟩ => show win0_0.index t (2 : Fin 3) * 128 + 1 * s.val = s.val; omega
  rw [e, hi, V_main_v0]
  generalize (m ((c : Thread nD τ).loc main_arg0) : Vec Ideal S2x128x2880 .bf16) = x
  pointwise

theorem iblk1_at (t : Fin cfg0.N) (k : Fin 2880) (j : Fin 640) :
    (iblk m c 1 t : Vec Ideal S2880x640 .bf16) (ix2 k j) = (m ((c : Thread nD τ).loc main_arg1) : Vec Ideal S2880x5760 .bf16) (ix2 k (colOf t j)) := by
  have e : (iblk m c 1 t : Vec Ideal S2880x640 .bf16) (ix2 k j) = V m c main_arg1 (((cfg0.win 1).blk t).view.emb (ix2 k j)) := rfl
  obtain ⟨e0, e1⟩ := idx_facts1 t
  have hi : ((cfg0.win 1).blk t).view.emb (ix2 k j) = (ix2 k (colOf t j) : S2880x5760.Idx) := by
    funext a
    apply Fin.ext
    match a with
    | ⟨0, _⟩ => show win0_1.index t (0 : Fin 2) * 2880 + 1 * k.val = k.val; omega
    | ⟨1, _⟩ => show win0_1.index t (1 : Fin 2) * 640 + 1 * j.val = 640 * t.val + j.val; omega
  rw [e, hi, V_main_arg1]

variable (X : Fin 2 → Fin 128 → Fin 2880 → ℝ) (hx : ∀ b s k, (m ((c : Thread nD τ).loc main_arg0) : Vec Ideal S2x128x2880 .bf16) (ix3 b s k) = ((X b s k : ℝ) : EReal))

include hx in
theorem scratch_at (n : ℕ) (hn : n < cfg0.N) (z : S12x4x32x256.Idx) :
    (outsAt0 m c n hn).2.2.2 z = ((scrR (energy X) (z 0).val (z 1).val (z 2).val (z 3).val : ℝ) : EReal) := by
  induction n with
  | zero =>
    refine (congrArg (fun o => o.2.2.2 z) (outsAt0_A m c ⟨0, hn⟩ rfl)).trans ?_
    exact lhs_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩)
      scM0_0 (Memref.isWhole_whole _) ((hcond0_0 ⟨0, hn⟩).mpr rfl) (iblk m c 0 ⟨0, hn⟩) (iblk m c 1 ⟨0, hn⟩) z _ (lhs_spec _ X (fun b k s => (iblk0_at m c _ b k s).trans (hx b s k)) z)
  | succ n ih =>
    have h0 : ¬(n + 1) % 9 = 0 := by have : cfg0.N = 9 := N_0; omega
    exact (congrArg (fun o => o.2.2.2 z) (outsAt0_B m c ⟨n + 1, hn⟩ h0)).trans (ih (by omega))

variable (W : Fin 2880 → Fin 5760 → ℝ) (hw : ∀ k j, (m ((c : Thread nD τ).loc main_arg1) : Vec Ideal S2880x5760 .bf16) (ix2 k j) = ((W k j : ℝ) : EReal))
variable (u v : Fin 90 → Fin 5760 → ℝ) (sc : Fin 90 → Fin 5760 → ℕ) (hS : ∀ I J, Scale (wblk W I J) (u I J) (v I J) (sc I J))
include hw hS

include hx in
theorem err_pt (t : Fin cfg0.N) (y : S3x90x640.Idx) :
    (outsAt0 m c t.val t.isLt).1 y = ((errAt (energy X) W u v (y 0).val (y 1) (colOf t (y 2)) : ℝ) : EReal) := by
  have key : ∀ xs : Vec Ideal S12x4x32x256 .bf16, (∀ z, xs z = ((scrR (energy X) (z 0).val (z 1).val (z 2).val (z 3).val : ℝ) : EReal)) →
      ErrSpec (iblk m c 1 t : Vec Ideal S2880x640 .bf16) xs y ((errAt (energy X) W u v (y 0).val (y 1) (colOf t (y 2)) : ℝ) : EReal) := fun xs hxs =>
    err_spec _ (fun k j => W k (colOf t j)) (fun k j => (iblk1_at m c t k j).trans (hw k _))
      (u := fun I j => u I (colOf t j)) (v := fun I j => v I (colOf t j)) (sc := fun I j => sc I (colOf t j)) (fun I j => hS I (colOf t j)) xs _ hxs y
  by_cases h0 : t.val % 9 = 0
  · refine (congrArg (fun o => o.1 y) (outsAt0_A m c t h0)).trans ?_
    refine err_A c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr h0) (iblk m c 0 t) (iblk m c 1 t) y _ (key _ fun z => ?_)
    exact lhs_A c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr h0) (iblk m c 0 t) (iblk m c 1 t) z _ (lhs_spec _ X (fun b k s => (iblk0_at m c _ b k s).trans (hx b s k)) z)
  · refine (congrArg (fun o => o.1 y) (outsAt0_B m c t h0)).trans ?_
    exact err_B c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) (iblk m c 0 t) (iblk m c 1 t) _ y _ (key _ fun z => scratch_at m c X hx _ _ z)

theorem code_pt (t : Fin cfg0.N) (y : S1440x640.Idx) : (outsAt0 m c t.val t.isLt).2.1 y = codeAt W v (y 0) (colOf t (y 1)) := by
  have key : CodeSpec (iblk m c 1 t : Vec Ideal S2880x640 .bf16) y (codeAt W v (y 0) (colOf t (y 1))) :=
    code_spec _ (fun k j => W k (colOf t j)) (fun k j => (iblk1_at m c t k j).trans (hw k _))
      (u := fun I j => u I (colOf t j)) (v := fun I j => v I (colOf t j)) (sc := fun I j => sc I (colOf t j)) (fun I j => hS I (colOf t j)) y (y 0) (y 1) (eq_ix2 y)
  by_cases h0 : t.val % 9 = 0
  · refine (congrArg (fun o => o.2.1 y) (outsAt0_A m c t h0)).trans ?_
    exact code_A c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr h0) (iblk m c 0 t) (iblk m c 1 t) y _ key
  · refine (congrArg (fun o => o.2.1 y) (outsAt0_B m c t h0)).trans ?_
    exact code_B c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) (iblk m c 0 t) (iblk m c 1 t)
      (outsAt0 m c (t.val - 1) (Nat.lt_of_le_of_lt (Nat.sub_le _ _) t.isLt)).2.2.2 y _ key

theorem scale_pt (t : Fin cfg0.N) (y : S90x640.Idx) : (outsAt0 m c t.val t.isLt).2.2.1 y = BitVec.ofNat 8 (sc (y 0) (colOf t (y 1))) := by
  have key : ScaleSpec (iblk m c 1 t : Vec Ideal S2880x640 .bf16) y (BitVec.ofNat 8 (sc (y 0) (colOf t (y 1)))) :=
    scale_spec _ (fun k j => W k (colOf t j)) (fun k j => (iblk1_at m c t k j).trans (hw k _))
      (u := fun I j => u I (colOf t j)) (v := fun I j => v I (colOf t j)) (sc := fun I j => sc I (colOf t j)) (fun I j => hS I (colOf t j)) y
  by_cases h0 : t.val % 9 = 0
  · refine (congrArg (fun o => o.2.2.1 y) (outsAt0_A m c t h0)).trans ?_
    exact scale_A c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr h0) (iblk m c 0 t) (iblk m c 1 t) y _ key
  · refine (congrArg (fun o => o.2.2.1 y) (outsAt0_B m c t h0)).trans ?_
    exact scale_B c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) (iblk m c 0 t) (iblk m c 1 t)
      (outsAt0 m c (t.val - 1) (Nat.lt_of_le_of_lt (Nat.sub_le _ _) t.isLt)).2.2.2 y _ key

include hx in
/-- The errors of the whole kernel. -/
theorem err_whole : (dats m 0 c).arrAt 2 cfg0.N
    = (fun i => ((errAt (energy X) W u v (i 0).val (i 1) (i 2) : ℝ) : EReal) : S3x90x5760.Idx → EReal) := by
  refine (dats m 0 c).arrAt_eq_of_cover 2 _ (fun t _ => ?_) (fun i => (covered_iff2 i).2 (by
    have h0 : (i 0).val < 3 := (i 0).isLt; have h1 : (i 1).val < 90 := (i 1).isLt; have h2 : (i 2).val < 5760 := (i 2).isLt; omega))
  rw [flushed2]
  funext y
  obtain ⟨e0, e0', e1, e1', e2, e2', e3⟩ := idx_facts2 t
  refine (err_pt m c X hx W hw u v sc hS t ((cfg0.win 2).xinj (grid0.coords t) y)).trans ?_
  have h0 : (((cfg0.win 2).blk t).view.emb y 0).val = ((cfg0.win 2).xinj (grid0.coords t) y 0).val := by
    show win0_2.index t (0 : Fin 3) * 3 + 1 * (y 0).val = (y 0).val; omega
  have h1 : ((cfg0.win 2).xinj (grid0.coords t) y 1 : Fin 90) = (((cfg0.win 2).blk t).view.emb y 1 : Fin 90) := Fin.ext (by
    show (y 1).val = win0_2.index t (1 : Fin 3) * 90 + 1 * (y 1).val; omega)
  have h2 : colOf t ((cfg0.win 2).xinj (grid0.coords t) y 2) = (((cfg0.win 2).blk t).view.emb y 2 : Fin 5760) := Fin.ext (by
    show 640 * t.val + (y 2).val = win0_2.index t (2 : Fin 3) * 640 + 1 * (y 2).val; omega)
  rw [h1, h2, ← h0]
  rfl

/-- The codes of the whole kernel. -/
theorem code_whole : (dats m 0 c).arrAt 3 cfg0.N = (fun i => codeAt W v (i 0) (i 1) : S1440x5760.Idx → BitVec 8) := by
  refine (dats m 0 c).arrAt_eq_of_cover 3 _ (fun t _ => ?_) (fun i => (covered_iff3 i).2 (by
    have h0 : (i 0).val < 1440 := (i 0).isLt; have h1 : (i 1).val < 5760 := (i 1).isLt; omega))
  rw [flushed3]
  funext y
  obtain ⟨e0, e0', e1, e1', e2⟩ := idx_facts3 t
  refine (code_pt m c W hw u v sc hS t ((cfg0.win 3).xinj (grid0.coords t) y)).trans ?_
  have h0 : ((cfg0.win 3).xinj (grid0.coords t) y 0 : Fin 1440) = (((cfg0.win 3).blk t).view.emb y 0 : Fin 1440) := Fin.ext (by
    show (y 0).val = win0_3.index t (0 : Fin 2) * 1440 + 1 * (y 0).val; omega)
  have h1 : colOf t ((cfg0.win 3).xinj (grid0.coords t) y 1) = (((cfg0.win 3).blk t).view.emb y 1 : Fin 5760) := Fin.ext (by
    show 640 * t.val + (y 1).val = win0_3.index t (1 : Fin 2) * 640 + 1 * (y 1).val; omega)
  rw [h0, h1]
  rfl

/-- The scale bytes of the whole kernel. -/
theorem scale_whole : (dats m 0 c).arrAt 4 cfg0.N = (fun i => BitVec.ofNat 8 (sc (i 0) (i 1)) : S90x5760.Idx → BitVec 8) := by
  refine (dats m 0 c).arrAt_eq_of_cover 4 _ (fun t _ => ?_) (fun i => (covered_iff4 i).2 (by
    have h0 : (i 0).val < 90 := (i 0).isLt; have h1 : (i 1).val < 5760 := (i 1).isLt; omega))
  rw [flushed4]
  funext y
  obtain ⟨e0, e0', e1, e1', e2⟩ := idx_facts4 t
  refine (scale_pt m c W hw u v sc hS t ((cfg0.win 4).xinj (grid0.coords t) y)).trans ?_
  have h0 : ((cfg0.win 4).xinj (grid0.coords t) y 0 : Fin 90) = (((cfg0.win 4).blk t).view.emb y 0 : Fin 90) := Fin.ext (by
    show (y 0).val = win0_4.index t (0 : Fin 2) * 90 + 1 * (y 0).val; omega)
  have h1 : colOf t ((cfg0.win 4).xinj (grid0.coords t) y 1) = (((cfg0.win 4).blk t).view.emb y 1 : Fin 5760) := Fin.ext (by
    show 640 * t.val + (y 1).val = win0_4.index t (1 : Fin 2) * 640 + 1 * (y 1).val; omega)
  rw [h0, h1]
  rfl

end Cert.Proof
end
-- ==== Proof.RefVal.lean ====
/- The reference's three results over the reals. -/
module

public import proofs.«01_k».proof.Proof.RefScale

@[expose] public section

set_option maxRecDepth 16384

noncomputable section

namespace Cert.Proof

open Idealize.ShloMosaic Cert.ReferenceIdeal Cert.ReferenceIdeal.Gen Cert.ReferenceIdeal.Read

/-- The reference's rounding of a magnitude to the four-bit grid. -/
def magE (t : EReal) : EReal :=
  if min (FloatOps.absf (F := Ideal) (φ := .f32) t) (Ideal.ofBits .f32 0x40C00000#32) < Ideal.ofBits .f32 0x40000000#32 then
    Ideal.div (Ideal.liftRound Ideal.roundHalfEven (Ideal.ofBits .f32 0x40000000#32 * min (FloatOps.absf (F := Ideal) (φ := .f32) t) (Ideal.ofBits .f32 0x40C00000#32)))
      (Ideal.ofBits .f32 0x40000000#32)
  else if min (FloatOps.absf (F := Ideal) (φ := .f32) t) (Ideal.ofBits .f32 0x40C00000#32) < Ideal.ofBits .f32 0x40800000#32 then
    Ideal.liftRound Ideal.roundHalfEven (min (FloatOps.absf (F := Ideal) (φ := .f32) t) (Ideal.ofBits .f32 0x40C00000#32))
  else Ideal.ofBits .f32 0x40000000#32
    * Ideal.liftRound Ideal.roundHalfEven (Ideal.div (min (FloatOps.absf (F := Ideal) (φ := .f32) t) (Ideal.ofBits .f32 0x40C00000#32)) (Ideal.ofBits .f32 0x40000000#32))

theorem rhe_coe (t : ℝ) : Ideal.liftRound Ideal.roundHalfEven (t : EReal) = (((Ideal.roundHalfEven t : ℤ) : ℝ) : EReal) := rfl

theorem magE_real (t : ℝ) : magE (t : EReal) = ((magR t : ℝ) : EReal) := by
  have h2 : (2 : ℝ) ≠ 0 := by norm_num
  unfold magE magR
  simp only [absf_coe, ofBits_six, ofBits_two32, ofBits_four32, min_coe, ← EReal.coe_mul, div_coe _ _ h2, rhe_coe, EReal.coe_lt_coe_iff]
  split_ifs <;> rfl

/-- The grid's number of a magnitude on the grid. -/
def codeE (q : EReal) : EReal :=
  if q < Ideal.ofBits .f32 0x40000000#32 then Ideal.ofBits .f32 0x40000000#32 * q
  else if q < Ideal.ofBits .f32 0x40800000#32 then q + Ideal.ofBits .f32 0x40000000#32
  else Ideal.div q (Ideal.ofBits .f32 0x40000000#32) + Ideal.ofBits .f32 0x40800000#32

/-- The reference's code of a scaled weight `v` and its rounded magnitude `q`. -/
def nibE (v q : EReal) : BitVec 32 :=
  IntOp.ori (Scalar.select (IntOp.andi (FloatOps.cmpf (F := Ideal) (φ := .f32) .olt v (FloatOps.ofBits .f32 0x00000000#32))
    (FloatOps.cmpf (F := Ideal) (φ := .f32) .une q (FloatOps.ofBits .f32 0x00000000#32))) 8#32 0#32) (FloatOps.fptosi (F := Ideal) (φ := .f32) 32 (codeE q))

theorem select_neg (v q : EReal) {α : Type} (x y : α) :
    Scalar.select (IntOp.andi (FloatOps.cmpf (F := Ideal) (φ := .f32) .olt v (FloatOps.ofBits .f32 0x00000000#32))
      (FloatOps.cmpf (F := Ideal) (φ := .f32) .une q (FloatOps.ofBits .f32 0x00000000#32))) x y = open Classical in if v < 0 ∧ q ≠ 0 then x else y := by
  classical
  rw [Ideal.cmpf_def, Ideal.cmpf_def, show (FloatOps.ofBits (F := Ideal) .f32 0x00000000#32) = (0 : EReal) from Ideal.ofBits_zero_f32,
    show Ideal.cmp .olt v 0 = BitVec.ofBool (decide (v < 0)) from rfl, show Ideal.cmp .une q 0 = BitVec.ofBool (decide (q ≠ 0)) from rfl]
  by_cases h1 : v < 0 <;> by_cases h2 : q ≠ 0
  · rw [if_pos ⟨h1, h2⟩, decide_eq_true h1, decide_eq_true h2]; rfl
  · rw [if_neg (fun h => h2 h.2), decide_eq_true h1, decide_eq_false h2]; rfl
  · rw [if_neg (fun h => h1 h.1), decide_eq_false h1, decide_eq_true h2]; rfl
  · rw [if_neg (fun h => h1 h.1), decide_eq_false h1, decide_eq_false h2]; rfl

theorem nib_pos {t : ℝ} (h : 0 ≤ t) : 0 ≤ countR t ∧ magR t = countR t * stepR t ∧ codeE ((magR t : ℝ) : EReal)
    = (((countR t + (if |t| < 2 then 0 else if |t| < 4 then 2 else 4) : ℤ) : ℝ) : EReal) := by
  have h2 : (2 : ℝ) ≠ 0 := by norm_num
  have hm : magR t = countR t * stepR t := by
    rw [count_mul_step]
    rcases h.eq_or_lt with rfl | h
    · have : magR 0 = 0 := by
        have h0 : Ideal.roundHalfEven 0 = 0 := by have := rhe_neg 0; rw [neg_zero] at this; omega
        unfold magR; norm_num [h0]
      rw [this, mul_zero]
    · simp [sign_pos h]
  have hc : 0 ≤ countR t := by
    rcases ranges h with ⟨-, a, b, -⟩ | ⟨-, -, a, b, -⟩ | ⟨-, a, b, -⟩ <;> omega
  refine ⟨hc, hm, ?_⟩
  rw [hm]
  unfold codeE
  simp only [ofBits_two32, ofBits_four32, ← EReal.coe_mul, ← EReal.coe_add, div_coe _ _ h2, EReal.coe_lt_coe_iff]
  have ha := abs_of_nonneg h
  rcases ranges h with ⟨c, a, b, e⟩ | ⟨c, d, a, b, e⟩ | ⟨c, a, b, e⟩
  · have hs : stepR t = 1 / 2 := by unfold stepR; rw [ha, if_pos c]
    rw [hs, ha, if_pos c]
    generalize countR t = N at a b
    interval_cases N <;> norm_num
  · have hs : stepR t = 1 := by unfold stepR; rw [ha, if_neg (not_lt.2 c), if_pos d]
    rw [hs, ha, if_neg (not_lt.2 c), if_pos d]
    generalize countR t = N at a b
    interval_cases N <;> norm_num
  · have c1 : 2 ≤ t := by linarith
    have hs : stepR t = 2 := by unfold stepR; rw [ha, if_neg (not_lt.2 c1), if_neg (not_lt.2 c)]
    rw [hs, ha, if_neg (not_lt.2 c1), if_neg (not_lt.2 c)]
    generalize countR t = N at a b
    interval_cases N <;> norm_num

theorem nibE_real (t : ℝ) : nibE (t : EReal) ((magR t : ℝ) : EReal) = BitVec.ofNat 32 (nibR t) := by
  unfold nibE
  have hcond : ((t : EReal) < 0 ∧ ((magR t : ℝ) : EReal) ≠ 0) ↔ countR t < 0 := by
    rw [← EReal.coe_zero, EReal.coe_lt_coe_iff, Ne, EReal.coe_eq_coe_iff]
    rcases le_total 0 t with h | h
    · have := (nib_pos h).1
      constructor
      · rintro ⟨a, -⟩; linarith
      · intro a; omega
    · obtain ⟨p1, p2, -⟩ := nib_pos (t := -t) (by linarith)
      rw [magR_neg, countR_neg, stepR_neg] at p2
      rw [countR_neg] at p1
      have hs := stepR_ne t
      rw [p2]
      constructor
      · rintro ⟨-, a⟩
        by_contra hc
        have : countR t = 0 := by omega
        apply a; rw [this]; simp
      · intro a
        refine ⟨lt_of_le_of_ne h ?_, ?_⟩
        · rintro rfl
          have := countR_neg 0; rw [neg_zero] at this; omega
        · refine mul_ne_zero ?_ hs
          have : -countR t ≠ 0 := by omega
          exact_mod_cast this
  have hcode : codeE ((magR t : ℝ) : EReal) = (((|countR t| + (if |t| < 2 then 0 else if |t| < 4 then 2 else 4) : ℤ) : ℝ) : EReal) := by
    rcases le_total 0 t with h | h
    · obtain ⟨p1, -, p3⟩ := nib_pos h
      rw [p3, abs_of_nonneg p1]
    · obtain ⟨p1, -, p3⟩ := nib_pos (t := -t) (by linarith)
      rw [magR_neg, countR_neg, abs_neg] at p3
      rw [countR_neg] at p1
      rw [p3, abs_of_nonpos (by omega : countR t ≤ 0)]
  have hb := countR_bounds t
  have ho : (if |t| < 2 then (0 : ℤ) else if |t| < 4 then 2 else 4) = 0 ∨ (if |t| < 2 then (0 : ℤ) else if |t| < 4 then 2 else 4) = 2
      ∨ ((if |t| < 2 then (0 : ℤ) else if |t| < 4 then 2 else 4) = 4 ∧ |countR t| ≤ 3) := by
    split_ifs with c d
    · exact .inl rfl
    · exact .inr (.inl rfl)
    · refine .inr (.inr ⟨rfl, ?_⟩)
      rcases le_total 0 t with h | h
      · rw [abs_of_nonneg h] at c d
        rcases ranges h with ⟨c', -⟩ | ⟨-, c', -⟩ | ⟨-, a, b, -⟩
        · exact absurd c' c
        · exact absurd c' d
        · rw [abs_of_nonneg (by omega)]; omega
      · rw [abs_of_nonpos h] at c d
        rcases ranges (t := -t) (by linarith) with ⟨c', -⟩ | ⟨-, c', -⟩ | ⟨-, a, b, -⟩
        · exact absurd c' c
        · exact absurd c' d
        · rw [countR_neg] at a b; rw [abs_of_nonpos (by omega)]; omega
  rw [select_neg, if_congr hcond rfl rfl, hcode, fptosi_def]
  unfold nibR
  generalize (if |t| < 2 then (0 : ℤ) else if |t| < 4 then 2 else 4) = o at ho ⊢
  obtain ⟨b1, b2⟩ := hb
  generalize countR t = N at b1 b2 ho ⊢
  have hab : |N| ≤ 4 := abs_le.2 ⟨b1, b2⟩
  have hab0 := abs_nonneg N
  rw [fptosi_int _ (by omega) (by omega)]
  rcases ho with rfl | rfl | ⟨rfl, h3⟩ <;> interval_cases N <;> first | decide | exact absurd h3 (by decide)

section
variable (x1 : (⟨S2880x5760, .bf16⟩ : BufTy).Contents (Elt Ideal))

theorem v56_read (p : S90x32x5760x3.Idx) : val_main_v56 (F := Ideal) x1 p = magE (val_main_v36 (F := Ideal) x1 p) := by
  simp only [val_main_v56_apply, val_main_v55_apply, val_main_v54_apply, val_main_v53_apply, val_main_v52_apply, val_main_v51_apply, val_main_v50_apply,
    val_main_v49_apply, val_main_v48_apply, val_main_v47_apply, val_main_v46_apply, val_main_v45_apply, val_main_v44_apply, val_main_v43_apply,
    val_main_v42_apply, val_main_v41_apply, val_main_v40_apply, val_main_v39_apply, val_main_v38_apply, val_main_v37_apply, val_main_cst_7_apply,
    val_main_cst_8_apply, val_main_cst_9_apply, val_main_cst_10_apply, val_main_cst_11_apply, val_main_cst_12_apply, val_main_cst_13_apply]
  generalize val_main_v36 (F := Ideal) x1 p = t
  pointwise [magE]

theorem v58_read (p : S90x32x5760x3.Idx) : val_main_v58 (F := Ideal) x1 p = Ideal.sign (val_main_v36 (F := Ideal) x1 p) * magE (val_main_v36 (F := Ideal) x1 p) := by
  rw [val_main_v58_apply, val_main_v57_apply, v56_read]
  rfl

theorem v64_read (i : Fin 90) (x : Fin 32) (j : Fin 5760) (c : Fin 3) : val_main_v64 (F := Ideal) x1 (ix4 i x j c)
    = val_main_v58 (F := Ideal) x1 (ix4 i x j c) * val_main_v61 (F := Ideal) x1 (ix3 i j c) := by
  unfold val_main_v64 val_main_v63 val_main_v62; pointwise

theorem v69_read (i : Fin 90) (x : Fin 32) (j : Fin 5760) (c : Fin 3) : val_main_v69 (F := Ideal) x1 (ix4 i x j c)
    = val_main_v6 (F := Ideal) x1 (ix3 i x j) - val_main_v64 (F := Ideal) x1 (ix4 i x j c) := by
  unfold val_main_v69 val_main_v68 val_main_v67; pointwise

theorem v72_read (x0 : (⟨S2x128x2880, .bf16⟩ : BufTy).Contents (Elt Ideal)) (i : Fin 90) (x : Fin 32) (j : Fin 5760) (c : Fin 3) :
    val_main_v72 (F := Ideal) x0 x1 (ix4 i x j c) = val_main_v4 (F := Ideal) x0 (ix1 ⟨i.val * 32 + x.val, by omega⟩)
      * (val_main_v69 (F := Ideal) x1 (ix4 i x j c) * val_main_v69 (F := Ideal) x1 (ix4 i x j c)) := by
  unfold val_main_v72 val_main_v71 val_main_v66 val_main_v65 val_main_v70; pointwise

theorem v113_read (x0 : (⟨S2x128x2880, .bf16⟩ : BufTy).Contents (Elt Ideal)) (i : Fin 90) (j : Fin 5760) (c : Fin 3) :
    val_main_v113 (F := Ideal) x0 x1 (ix3 c i j) = ∑ x : Fin 32, val_main_v72 (F := Ideal) x0 x1 (ix4 i x j c) := by
  unfold val_main_v113 val_main_v73 val_main_cst_15; pointwise

theorem v100_read (i : Fin 90) (x : Fin 32) (j : Fin 5760) : val_main_v100 (F := Ideal) x1 (ix3 i x j)
    = nibE (val_main_v36 (F := Ideal) x1 (ix4 i x j 1)) (val_main_v56 (F := Ideal) x1 (ix4 i x j 1)) := by
  have e1 : val_main_v75 (F := Ideal) x1 (ix3 i x j) = val_main_v56 (F := Ideal) x1 (ix4 i x j 1) := by
    unfold val_main_v75 val_main_v74; pointwise
  have e2 : val_main_v77 (F := Ideal) x1 (ix3 i x j) = val_main_v36 (F := Ideal) x1 (ix4 i x j 1) := by
    unfold val_main_v77 val_main_v76; pointwise
  simp only [val_main_v100_apply, val_main_v99_apply, val_main_v98_apply, val_main_call8_v0_apply, val_main_call8_v1_apply, val_main_c_24_apply,
    val_main_c_25_apply, val_main_v97_apply, val_main_v96_apply, val_main_v95_apply, val_main_v94_apply, val_main_v93_apply, val_main_cst_22_apply,
    val_main_cst_23_apply, val_main_v92_apply, val_main_v91_apply, val_main_v90_apply, val_main_v89_apply, val_main_v88_apply, val_main_v87_apply,
    val_main_v86_apply, val_main_v85_apply, val_main_v84_apply, val_main_v83_apply, val_main_v82_apply, val_main_v81_apply, val_main_v80_apply,
    val_main_v79_apply, val_main_v78_apply, val_main_cst_16_apply, val_main_cst_17_apply, val_main_cst_18_apply, val_main_cst_19_apply,
    val_main_cst_20_apply, val_main_cst_21_apply, e1, e2]
  generalize val_main_v36 (F := Ideal) x1 (ix4 i x j 1) = v
  generalize val_main_v56 (F := Ideal) x1 (ix4 i x j 1) = q
  pointwise [nibE, codeE]

theorem v109_read (p : Fin 1440) (j : Fin 5760) : val_main_v109 (F := Ideal) x1 (ix2 p j)
    = (IntOp.ori (val_main_v100 (F := Ideal) x1 (ix3 ⟨p.val / 16, by omega⟩ ⟨p.val % 16 * 2, by omega⟩ j))
        (IntOp.shli .host (val_main_v100 (F := Ideal) x1 (ix3 ⟨p.val / 16, by omega⟩ ⟨p.val % 16 * 2 + 1, by omega⟩ j)) 4#32)).setWidth 8 := by
  unfold val_main_v109 val_main_v108 val_main_v107 val_main_v106 val_main_v105 val_main_v104 val_main_v103 val_main_v102 val_main_v101 val_main_c_26
  pointwise

theorem v112_read (i : Fin 90) (j : Fin 5760) : val_main_v112 (F := Ideal) x1 (ix2 i j)
    = (IntOp.addi (val_main_v19 (F := Ideal) x1 (ix2 i j)) 127#32).setWidth 8 := by
  rw [val_main_v112_apply, val_main_v111_apply, val_main_v110_apply, val_main_c_27_apply]

theorem v4_read (x0 : (⟨S2x128x2880, .bf16⟩ : BufTy).Contents (Elt Ideal)) (k : Fin 2880) : val_main_v4 (F := Ideal) x0 (ix1 k)
    = val_main_v2 (F := Ideal) x0 (ix1 k) * Ideal.ofBits .f32 0x3B800000#32 := by
  rw [val_main_v4_apply, val_main_v3_apply, val_main_cst_0_apply]
  rfl

/-- The entries of a stack of matrices that a sum over its first two axes adds up. -/
theorem sum_lead (h : (⟨3, ![2, 128, 2880]⟩ : Shape).ReducesTo [0, 1] ⟨1, ![2880]⟩) (k : Fin 2880)
    (v : (⟨3, ![2, 128, 2880]⟩ : Shape).Idx → EReal) :
    Ideal.hostReduceAdd h v 0 (ix1 k) = ∑ b : Fin 2, ∑ s : Fin 128, v (ix3 b s k) := by
  unfold Ideal.hostReduceAdd
  rw [zero_add, Finset.sum_filter_eq_sum_of_fiber _ (fun p : Fin 2 × Fin 128 => ix3 p.1 p.2 k)
    (fun _ _ e => Prod.ext (congrFun e 0) (congrFun e 1)) ?_ v, Fintype.sum_prod_type]
  intro i
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

theorem v2_read (x0 : (⟨S2x128x2880, .bf16⟩ : BufTy).Contents (Elt Ideal)) (k : Fin 2880) : val_main_v2 (F := Ideal) x0 (ix1 k)
    = ∑ b : Fin 2, ∑ s : Fin 128, x0 (ix3 b s k) * x0 (ix3 b s k) := by
  unfold val_main_v2 val_main_cst val_main_v1 val_main_v0; pointwise
  exact sum_lead _ k _

variable (W : Fin 2880 → Fin 5760 → ℝ) (hw : ∀ k j, x1 (ix2 k j) = ((W k j : ℝ) : EReal)) (j : Fin 5760)
include hw

/-- The reference's scale byte. -/
theorem v112_real (i : Fin 90) {u r : ℝ} {sc : ℕ} (h : Scale (wblk W i j) u r sc) :
    val_main_v112 (F := Ideal) x1 (ix2 i j) = BitVec.ofNat 8 sc := by
  obtain ⟨E, hs, hE⟩ := v19_real x1 W hw i j h
  have e : IntOp.addi (BitVec.ofInt 32 E) 127#32 = BitVec.ofNat 32 sc := by
    rw [← BitVec.ofInt_natCast (w := 32) (n := sc), hs.byte, BitVec.ofInt_add]; rfl
  rw [v112_read, hE, e]
  apply BitVec.eq_of_toNat_eq
  simp

/-- The reference's code, as a word. -/
theorem v100_real (i : Fin 90) (x : Fin 32) {u r : ℝ} {sc : ℕ} (h : Scale (wblk W i j) u r sc) :
    val_main_v100 (F := Ideal) x1 (ix3 i x j) = BitVec.ofNat 32 (nibR (wblk W i j x * r)) := by
  obtain ⟨E, hs, hE⟩ := v19_real x1 W hw i j h
  have h1 : facR 1 = 1 := by unfold facR; norm_num
  rw [v100_read, v56_read, v36_real x1 W hw i j hs hE, h1, mul_one, magE_real, nibE_real]

theorem pack_two (a b : ℕ) (ha : a < 16) (hb : b < 16) :
    (IntOp.ori (BitVec.ofNat 32 a) (IntOp.shli .host (BitVec.ofNat 32 b) 4#32)).setWidth 8 = BitVec.ofNat 8 (a + 16 * b) := by
  clear hw
  interval_cases a <;> interval_cases b <;> rfl

/-- The reference's byte of two codes. -/
theorem v109_real (p : Fin 1440) {u r : ℝ} {sc : ℕ} (h : Scale (wblk W ⟨p.val / 16, by omega⟩ j) u r sc) :
    val_main_v109 (F := Ideal) x1 (ix2 p j)
      = BitVec.ofNat 8 (nibR (wblk W ⟨p.val / 16, by omega⟩ j ⟨p.val % 16 * 2, by omega⟩ * r)
        + 16 * nibR (wblk W ⟨p.val / 16, by omega⟩ j ⟨p.val % 16 * 2 + 1, by omega⟩ * r)) := by
  rw [v109_read, v100_real x1 W hw j _ _ h, v100_real x1 W hw j _ _ h, pack_two x1 W hw _ _ (nibR_lt _).1 (nibR_lt _).1]

theorem sign_coe (t : ℝ) : Ideal.sign (t : EReal) = (((SignType.sign t : ℤ) : ℝ) : EReal) := by
  clear hw
  show (((SignType.sign t : SignType) : ℝ) : EReal) = _
  refine congrArg Real.toEReal ?_
  cases SignType.sign t <;> simp

/-- The reference's error. -/
theorem v113_real (x0 : (⟨S2x128x2880, .bf16⟩ : BufTy).Contents (Elt Ideal)) (H : Fin 2880 → ℝ)
    (hh : ∀ k, val_main_v4 (F := Ideal) x0 (ix1 k) = ((H k : ℝ) : EReal)) (i : Fin 90) (c : Fin 3) {u r : ℝ} {sc : ℕ} (h : Scale (wblk W i j) u r sc) :
    val_main_v113 (F := Ideal) x0 x1 (ix3 c i j)
      = ((errR (fun x => H ⟨i.val * 32 + x.val, by omega⟩) (wblk W i j) u r (facR c) : ℝ) : EReal) := by
  obtain ⟨E, hs, hE⟩ := v19_real x1 W hw i j h
  rw [v113_read]
  unfold errR
  rw [coe_sum]
  refine Finset.sum_congr rfl fun x _ => ?_
  have hd : val_main_v64 (F := Ideal) x1 (ix4 i x j c)
      = ((countR (wblk W i j x * r * facR c) * stepR (wblk W i j x * r * facR c) * (u / facR c) : ℝ) : EReal) := by
    rw [v64_read, v58_read, v36_real x1 W hw i j hs hE, magE_real, v61_real x1 W hw i j hs.lo hs.hi hE, sign_coe x1 W hw, ← EReal.coe_mul, ← EReal.coe_mul,
      ← count_mul_step, deq_pow x1 W hw hs]
  rw [v72_read, v69_read, hd, v6_real x1 W hw, hh, ← EReal.coe_sub, ← EReal.coe_mul, ← EReal.coe_mul]
  refine congrArg Real.toEReal ?_
  ring

end

end Cert.Proof
end
-- ==== Proof.Pre.lean ====
/- What the precondition gives: the activations and the weights are reals, and every block has a scale. -/
module

public import proofs.«01_k».proof.Proof.RefVal
public import proofs.«01_k».proof.Pre_finite
public import Idealize.ShloMosaic.Lib.ReduceAll

@[expose] public section

set_option maxRecDepth 16384

noncomputable section

namespace Cert.Proof

open Idealize.ShloMosaic

theorem ofBool_one {p : Prop} [Decidable p] (h : BitVec.ofBool (decide p) = 1#1) : p := by
  by_contra hp
  rw [decide_eq_false hp] at h
  exact absurd h (by decide)

theorem ofBits_inf : Ideal.ofBits .f32 0x7F800000#32 = (⊤ : EReal) := by simp [Ideal.ofBits, Ideal.ieee]

theorem ofBits_max : Ideal.ofBits .f32 0x7F7FFFFF#32 < (((2 : ℝ) ^ (128 : ℤ) : ℝ) : EReal) := by
  have e : Ideal.ofBits .f32 0x7F7FFFFF#32 = ((340282346638528859811704183484516925440 : ℝ) : EReal) := by
    simp [Ideal.ofBits, Ideal.ieee, -EReal.coe_mul]; norm_num
  rw [e, EReal.coe_lt_coe_iff]; norm_num

theorem ofBits_low : Ideal.ofBits .f32 0x01800000#32 = (((2 : ℝ) ^ (-124 : ℤ) : ℝ) : EReal) := by
  simp [Ideal.ofBits, Ideal.ieee, -EReal.coe_mul]; norm_num

/-- A number whose magnitude is below infinity is a real. -/
theorem real_of_abs {a : EReal} (h : FloatOps.absf (F := Ideal) (φ := .f32) a < ⊤) : ∃ r : ℝ, a = (r : EReal) := by
  have h' : max a (-a) < ⊤ := h
  rw [max_lt_iff] at h'
  refine ⟨a.toReal, (EReal.coe_toReal (ne_of_lt h'.1) ?_).symm⟩
  rintro rfl
  exact absurd h'.2 (by simp)

/-- A block whose largest magnitude is zero, or at least two to the power -124, has a scale. -/
theorem scale_exists (f : Fin 32 → ℝ) (x : Fin 32) (hx : ∀ y, |f y| ≤ |f x|) (hb : |f x| < (2 : ℝ) ^ (128 : ℤ))
    (h : |f x| = 0 ∨ (2 : ℝ) ^ (-124 : ℤ) ≤ |f x|) : ∃ u r sc, Scale f u r sc := by
  rcases h with h | h
  · exact ⟨_, _, _, .zero fun y => abs_eq_zero.1 (le_antisymm (h ▸ hx y) (abs_nonneg _))⟩
  · have hp : 0 < |f x| := lt_of_lt_of_le (by positivity) h
    obtain ⟨n, h1, h2⟩ := exists_mem_Ico_zpow hp (by norm_num : (1 : ℝ) < 2)
    have l1 := (zpow_lt_zpow_iff_right₀ (by norm_num : (1 : ℝ) < 2)).1 (lt_of_le_of_lt h h2)
    have l2 := (zpow_lt_zpow_iff_right₀ (by norm_num : (1 : ℝ) < 2)).1 (lt_of_le_of_lt h1 hb)
    exact ⟨_, _, _, .top n (by omega) (by omega) (fun y => lt_of_le_of_lt (hx y) h2) ⟨x, h1⟩⟩

open Cert.Pre_finite Cert.Pre_finite.Facts in
/-- The largest magnitude of each block, as the precondition computes it. -/
theorem preMax_read [Cert.Pre_finite.Facts] (x1 : FVec Ideal S2880x5760 .bf16) (i : Fin 90) (j : Fin 5760) :
    Host.reduce FloatOps.maximumf (shapeCast S90x32x5760 (Host.absf (extf .f32 x1 bitsLt_bf16_f32)) shapeCasts_S2880x5760_S90x32x5760)
      (constant S_ .f32 0xFF800000#32) reducesTo_S90x32x5760_S90x5760_d1 h_S_ (ix2 i j)
    = Finset.univ.fold max (Ideal.ofBits .f32 4286578688#32) fun x : Fin 32 =>
        FloatOps.absf (F := Ideal) (φ := .f32) (x1 (ix2 ⟨i.val * 32 + x.val, by omega⟩ j)) := by
  pointwise

theorem cmp_const {T : Shape} (p : CmpFPredicate) (a : FVec Ideal T .f32) (c : BitVec 32)
    (h : Cert.Pre_finite.S_.BroadcastsInDim T ![]) (i : T.Idx) :
    cmpf p a (broadcastInDim T ![] h (constant (F := Ideal) Cert.Pre_finite.S_ .f32 c)) i = Ideal.cmp p (a i) (Ideal.ofBits .f32 c) := rfl

theorem abs_at {T : Shape} (a : FVec Ideal T .bf16) (h : FTy.bits .bf16 < FTy.bits .f32) (i : T.Idx) :
    Host.absf (extf .f32 a h) i = FloatOps.absf (F := Ideal) (φ := .f32) (a i) := rfl

theorem lt_of_cmp {a b : EReal} (h : Ideal.cmp .olt a b = 1#1) : a < b := ofBool_one h
theorem le_of_cmp {a b : EReal} (h : Ideal.cmp .ole a b = 1#1) : a ≤ b := ofBool_one h
theorem ge_of_cmp {a b : EReal} (h : Ideal.cmp .oge a b = 1#1) : b ≤ a := ofBool_one h
theorem eq_of_cmp {a b : EReal} (h : Ideal.cmp .oeq a b = 1#1) : a = b := ofBool_one h

theorem one_of_ori {a b : BitVec 1} (h : IntOp.ori a b = 1#1) : a = 1#1 ∨ b = 1#1 := by
  revert a b; decide

theorem ori_at {T : Shape} (a b : IVec T 1) (i : T.Idx) : ori a b i = IntOp.ori (a i) (b i) := rfl

/-- The arguments are reals and every block has a scale. -/
theorem pre_real [Cert.Pre_finite.Facts] (x0 : FVec Ideal Cert.Pre_finite.S2x128x2880 .bf16) (x1 : FVec Ideal Cert.Pre_finite.S2880x5760 .bf16)
    (h : Cert.Pre_finite.fn (F := Ideal) x0 x1 = fun _ => 1#1) :
    (∃ X : Fin 2 → Fin 128 → Fin 2880 → ℝ, ∀ b s k, x0 (ix3 b s k) = ((X b s k : ℝ) : EReal)) ∧
    ∃ W : Fin 2880 → Fin 5760 → ℝ, (∀ k j, x1 (ix2 k j) = ((W k j : ℝ) : EReal)) ∧ ∀ i j, ∃ u r sc, Scale (wblk W i j) u r sc := by
  have h0 := congrFun h ix0
  dsimp only [Cert.Pre_finite.fn, Cert.Pre_finite.fn_part1] at h0
  generalize hM : (Host.reduce FloatOps.maximumf _ _ _ _ : FVec Ideal Cert.Pre_finite.S90x5760 .f32) = M at h0
  have hMr : ∀ (i : Fin 90) (j : Fin 5760), M (ix2 i j) = Finset.univ.fold max (Ideal.ofBits .f32 4286578688#32) fun x : Fin 32 =>
        FloatOps.absf (F := Ideal) (φ := .f32) (x1 (ix2 ⟨i.val * 32 + x.val, by omega⟩ j)) := by
    intro i j
    rw [← hM]
    exact preMax_read x1 i j
  clear hM
  obtain ⟨h12, h18⟩ := IntOp.andi_eq_one.1 h0
  obtain ⟨h8, h11⟩ := IntOp.andi_eq_one.1 h12
  haveI : Subsingleton Cert.Pre_finite.S_.Idx := ⟨fun a b => funext fun i => i.elim0⟩
  have ha : ∀ b s k, ∃ r : ℝ, x0 (ix3 b s k) = (r : EReal) := by
    intro b s k
    have e := Host.reduce_andi_all _ _ _ _ _ h8 (ix3 b s k)
    rw [cmp_const, abs_at, ofBits_inf] at e
    exact real_of_abs (lt_of_cmp e)
  have hmax : ∀ (i : Fin 90) (j : Fin 5760), (Finset.univ.fold max (Ideal.ofBits .f32 4286578688#32) fun x : Fin 32 =>
        FloatOps.absf (F := Ideal) (φ := .f32) (x1 (ix2 ⟨i.val * 32 + x.val, by omega⟩ j))) ≤ Ideal.ofBits .f32 0x7F7FFFFF#32 := by
    intro i j
    have e := Host.reduce_andi_all _ _ _ _ _ h11 (ix2 i j)
    rw [cmp_const, hMr] at e
    exact le_of_cmp e
  have hlow : ∀ (i : Fin 90) (j : Fin 5760), (Finset.univ.fold max (Ideal.ofBits .f32 4286578688#32) fun x : Fin 32 =>
        FloatOps.absf (F := Ideal) (φ := .f32) (x1 (ix2 ⟨i.val * 32 + x.val, by omega⟩ j))) = Ideal.ofBits .f32 0x00000000#32
      ∨ Ideal.ofBits .f32 0x01800000#32 ≤ (Finset.univ.fold max (Ideal.ofBits .f32 4286578688#32) fun x : Fin 32 =>
        FloatOps.absf (F := Ideal) (φ := .f32) (x1 (ix2 ⟨i.val * 32 + x.val, by omega⟩ j))) := by
    intro i j
    have e := Host.reduce_andi_all _ _ _ _ _ h18 (ix2 i j)
    rw [ori_at, cmp_const, cmp_const, hMr] at e
    rcases one_of_ori e with e | e
    · exact .inl (eq_of_cmp e)
    · exact .inr (ge_of_cmp e)
  have hb : ∀ (i : Fin 90) (x : Fin 32) (j : Fin 5760), ∃ r : ℝ, x1 (ix2 ⟨i.val * 32 + x.val, by omega⟩ j) = (r : EReal) := by
    intro i x j
    refine real_of_abs (lt_of_le_of_lt ?_ (lt_of_le_of_lt (hmax i j) (lt_trans ofBits_max (EReal.coe_lt_top _))))
    rw [Finset.le_fold_max]
    exact .inr ⟨x, Finset.mem_univ x, le_refl _⟩
  have hw : ∀ (k : Fin 2880) (j : Fin 5760), ∃ r : ℝ, x1 (ix2 k j) = (r : EReal) := by
    intro k j
    obtain ⟨r, hr⟩ := hb ⟨k.val / 32, by omega⟩ ⟨k.val % 32, by omega⟩ j
    refine ⟨r, hr ▸ congrArg (fun t => x1 (ix2 t j)) (Fin.ext ?_)⟩
    show k.val = k.val / 32 * 32 + k.val % 32
    omega
  choose X hX using ha
  choose W hW using hw
  refine ⟨⟨X, hX⟩, W, hW, fun i j => ?_⟩
  have e1 := hmax i j
  have e2 := hlow i j
  simp only [hW, absf_coe] at e1 e2
  obtain ⟨x, hx, e⟩ := fold_max_abs (wblk W i j)
  have e' : (Finset.univ.fold max (Ideal.ofBits .f32 4286578688#32) fun x : Fin 32 => ((|W ⟨i.val * 32 + x.val, by omega⟩ j| : ℝ) : EReal))
      = ((|wblk W i j x| : ℝ) : EReal) := by rw [ofBits_bot]; exact e
  rw [e'] at e1 e2
  rw [ofBits_low, Ideal.ofBits_zero_f32] at e2
  refine scale_exists _ x hx (EReal.coe_lt_coe_iff.1 (lt_of_le_of_lt e1 ofBits_max)) ?_
  rcases e2 with e2 | e2
  · exact .inl (EReal.coe_eq_zero.1 e2)
  · exact .inr (EReal.coe_le_coe_iff.1 e2)

end Cert.Proof
end
-- ==== Proof.Agree.lean ====
/- The kernel's three results over the reals are the reference's, for arguments the precondition admits. -/
module

public import proofs.«01_k».proof.Proof.Whole
public import proofs.«01_k».proof.Proof.RefVal
public import proofs.«01_k».proof.Proof.Pre

@[expose] public section

set_option maxRecDepth 16384
set_option maxHeartbeats 2000000

noncomputable section

namespace Cert.Proof

open Idealize.ShloMosaic Idealize.ShloMosaic.TcCoe Idealize.SL.Sem Cert.KernelIdeal Cert.KernelIdeal.Gen Cert.KernelIdeal.Value
open Cert.ReferenceIdeal.Read (val_main_v4 val_main_v109 val_main_v112 val_main_v113)

/-- The side conditions of the precondition's own operations. -/
theorem preFacts : Cert.Pre_finite.Facts := by constructor <;> decide

/-- The reference's three factors are the candidates' three. -/
theorem facR_eq : ∀ c : Fin 3, facR c = candR c.val
  | 0 => by norm_num [facR, candR]
  | 1 => by norm_num [facR, candR]
  | 2 => by norm_num [facR, candR]

/-- The reference's mean squares of a real left argument. -/
theorem v4_real (x0 : FVec Ideal S2x128x2880 .bf16) (X : Fin 2 → Fin 128 → Fin 2880 → ℝ)
    (hx : ∀ b s k, x0 (ix3 b s k) = ((X b s k : ℝ) : EReal)) (k : Fin 2880) :
    val_main_v4 (F := Ideal) x0 (ix1 k) = ((energy X k : ℝ) : EReal) := by
  rw [v4_read, v2_read, ofBits_mean]
  unfold energy
  rw [EReal.coe_mul, coe_sum]
  congr 1
  refine Finset.sum_congr rfl fun b _ => ?_
  rw [coe_sum]
  refine Finset.sum_congr rfl fun s _ => ?_
  rw [hx, EReal.coe_mul]

variable (m : (ℓ : Loc nD τ sig) → Buf (Elt Ideal) ℓ) (c : Dev nD)

/-- The arrays the kernel leaves are the reference's results of the same arguments. -/
theorem agree [Cert.Pre_finite.Facts]
    (h : Cert.Pre_finite.fn (F := Ideal) (m ((c.tc : Thread nD τ).loc main_arg0)) (m ((c.tc : Thread nD τ).loc main_arg1)) = fun _ => 1#1) :
    (dats m 0 c).arrAt 2 cfg0.N = val_main_v113 (F := Ideal) (m ((c.tc : Thread nD τ).loc main_arg0)) (m ((c.tc : Thread nD τ).loc main_arg1))
    ∧ (dats m 0 c).arrAt 3 cfg0.N = val_main_v109 (F := Ideal) (m ((c.tc : Thread nD τ).loc main_arg1))
    ∧ (dats m 0 c).arrAt 4 cfg0.N = val_main_v112 (F := Ideal) (m ((c.tc : Thread nD τ).loc main_arg1)) := by
  obtain ⟨⟨X, hx⟩, W, hw, hs⟩ := pre_real _ _ h
  choose u v sc hS using hs
  refine ⟨(err_whole m c X hx W hw u v sc hS).trans ?_, (code_whole m c W hw u v sc hS).trans ?_, (scale_whole m c W hw u v sc hS).trans ?_⟩
  · funext i
    obtain ⟨a, b, d, rfl⟩ : ∃ a b d, i = ix3 a b d := ⟨i 0, i 1, i 2, eq_ix3 i⟩
    refine Eq.trans ?_ (v113_real _ W hw d _ (energy X) (v4_real _ X hx) b a (hS b d)).symm
    rw [facR_eq]
    rfl
  · funext i
    obtain ⟨a, b, rfl⟩ : ∃ a b, i = ix2 a b := ⟨i 0, i 1, eq_ix2 i⟩
    exact (v109_real _ W hw b a (hS _ b)).symm
  · funext i
    obtain ⟨a, b, rfl⟩ : ∃ a b, i = ix2 a b := ⟨i 0, i 1, eq_ix2 i⟩
    exact (v112_real _ W hw b a (hS a b)).symm

end Cert.Proof
end
-- ==== Proof.lean ====
/- The claims: the two programs' frames, and the kernel's results against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its arguments as they were, and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.2.1, (h c).2.2.2.2⟩, sem_eq_zero_of_no_sems rfl r.2⟩)
    (Cert.ReferenceIdeal.Value.run (F := Ideal) m g)

/-- The kernel's three results are the reference's. -/
theorem same_results [Cert.Pre_finite.Facts] : Cert.algebraic_KernelIdeal_ReferenceIdeal_pre_finite := by
  intro m g m' g' hpre hargs
  refine ⟨fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v109 (F := Ideal) (m ((c.tc : Thread Cert.KernelIdeal.nD Cert.KernelIdeal.τ).loc Cert.KernelIdeal.main_arg1)),
    fun c => Cert.ReferenceIdeal.Read.val_main_v112 (F := Ideal) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks m g)
    obtain ⟨h2, h3, h4, ha, hb⟩ := h c
    obtain ⟨e2, e3, e4⟩ := agree m c (hpre c)
    exact ⟨h2.trans e2, h3.trans e3, h4.trans e4, ha, hb⟩
  · refine (θ_run Cert.ReferenceIdeal.defs _ _).mono (fun r h c => ?_) (Cert.ReferenceIdeal.Value.run (F := Ideal) m' g')
    obtain ⟨h2, h3, h4, ha, hb⟩ := h c
    obtain ⟨e0, e1⟩ := hargs c
    refine ⟨h2.trans ((Cert.ReferenceIdeal.Read.val_main_v113_eq _).trans ?_), h3.trans ((Cert.ReferenceIdeal.Read.val_main_v109_eq _).trans ?_),
      h4.trans ((Cert.ReferenceIdeal.Read.val_main_v112_eq _).trans ?_), ha, hb⟩
    · rw [StableHlo.launchContents_devRef, StableHlo.launchContents_devRef, e0, e1]
    · rw [StableHlo.launchContents_devRef, e1]
    · rw [StableHlo.launchContents_devRef, e1]

theorem claim : Cert.Claim :=
  have := preFacts
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => frame_reference m g, fun m g _ => frame_reference m g, trivial, same_results⟩

end Cert.Proof

end
